-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S16x16x1024 : Shape := ⟨3, ![16, 16, 1024]⟩
abbrev S1x1x16x64 : Shape := ⟨4, ![1, 1, 16, 64]⟩
abbrev S16x16x2048x64 : Shape := ⟨4, ![16, 16, 2048, 64]⟩
abbrev S1024x1024 : Shape := ⟨2, ![1024, 1024]⟩
abbrev S1024 : Shape := ⟨1, ![1024]⟩
abbrev S16 : Shape := ⟨1, ![16]⟩
abbrev S16x16 : Shape := ⟨2, ![16, 16]⟩
abbrev S_ : Shape := ⟨0, ![]⟩
abbrev S1x16 : Shape := ⟨2, ![1, 16]⟩
abbrev S16x1 : Shape := ⟨2, ![16, 1]⟩

class Facts : Prop where
  bcast_S_S16 : S_.BroadcastsInDim S16 (![] : Fin 0 → Fin S16.rank)
  reducesTo_S16_S_d0 : S16.ReducesTo [0] S_
  h_S_ : 0 < S_.numel
  bcast_S16_S1x16_1 : S16.BroadcastsInDim S1x16 (![1] : Fin 1 → Fin S1x16.rank)
  bcast_S16_S16x1_0 : S16.BroadcastsInDim S16x1 (![0] : Fin 1 → Fin S16x1.rank)
  bcast_S1x16_S16x16_0_1 : S1x16.BroadcastsInDim S16x16 (![0, 1] : Fin 2 → Fin S16x16.rank)
  bcast_S16x1_S16x16_0_1 : S16x1.BroadcastsInDim S16x16 (![0, 1] : Fin 2 → Fin S16x16.rank)
  reducesTo_S16x16_S_d0_1 : S16x16.ReducesTo [0, 1] S_
  bcast_S_S16x16x1024 : S_.BroadcastsInDim S16x16x1024 (![] : Fin 0 → Fin S16x16x1024.rank)
  reducesTo_S16x16x1024_S_d0_1_2 : S16x16x1024.ReducesTo [0, 1, 2] S_
  bcast_S_S1x1x16x64 : S_.BroadcastsInDim S1x1x16x64 (![] : Fin 0 → Fin S1x1x16x64.rank)
  reducesTo_S1x1x16x64_S_d0_1_2_3 : S1x1x16x64.ReducesTo [0, 1, 2, 3] S_
  bcast_S_S16x16x2048x64 : S_.BroadcastsInDim S16x16x2048x64 (![] : Fin 0 → Fin S16x16x2048x64.rank)
  reducesTo_S16x16x2048x64_S_d0_1_2_3 : S16x16x2048x64.ReducesTo [0, 1, 2, 3] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v5 : IVec S_ 1) (main_v11 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v48 : FVec F S1024 .f32) (main_v49 : FVec F S1024 .f32) : IVec S_ 1 :=
  let main_v50 : IVec S1024 1 := cmpf .olt main_v48 main_v49
  let main_c_20 : IVec S_ 1 := constantI S_ 1 1#1
  let main_v51 : IVec S_ 1 := (fun x v => Host.reduce IntOp.andi x v reducesTo_S1024_S_d0 h_S_) main_v50 main_c_20
  let main_v52 : IVec S_ 1 := andi main_v5 main_v11
  let main_v53 : IVec S_ 1 := andi main_v52 main_v19
  let main_v54 : IVec S_ 1 := andi main_v23 main_v27
  let main_v55 : IVec S_ 1 := andi main_v54 main_v31
  let main_v56 : IVec S_ 1 := andi main_v55 main_v35
  let main_v57 : IVec S_ 1 := andi main_v56 main_v39
  let main_v58 : IVec S_ 1 := andi main_v57 main_v43
  let main_v59 : IVec S_ 1 := andi main_v58 main_v47
  let main_v60 : IVec S_ 1 := andi main_v59 main_v51
  let main_v61 : IVec S_ 1 := andi main_v53 main_v60
  main_v61

def fn_part2 {F : FTy → Type} [FloatOps F] (main_arg5 : FVec F S1024x1024 .f32) (main_arg6 : FVec F S1024 .f32) (main_arg7 : FVec F S1024x1024 .f32) (main_arg8 : FVec F S1024 .f32) (main_v5 : IVec S_ 1) (main_v11 : IVec S_ 1) (main_v19 : IVec S_ 1) (main_v23 : IVec S_ 1) (main_v27 : IVec S_ 1) (main_v31 : IVec S_ 1) (main_v32 : FVec F S16x16x2048x64 .f32) (main_v33 : FVec F S16x16x2048x64 .f32) : IVec S_ 1 :=
  let main_v34 : IVec S16x16x2048x64 1 := cmpf .olt main_v32 main_v33
  let main_c_12 : IVec S_ 1 := constantI S_ 1 1#1
  let main_v35 : IVec S_ 1 := (fun x v => Host.reduce IntOp.andi x v reducesTo_S16x16x2048x64_S_d0_1_2_3 h_S_) main_v34 main_c_12
  let main_v36 : FVec F S1024x1024 .f32 := Host.absf main_arg5
  let main_cst_13 : FVec F S_ .f32 := constant S_ .f32 0x7F800000#32
  let main_v37 : FVec F S1024x1024 .f32 := broadcastInDim S1024x1024 ![] bcast_S_S1024x1024 main_cst_13
  let main_v38 : IVec S1024x1024 1 := cmpf .olt main_v36 main_v37
  let main_c_14 : IVec S_ 1 := constantI S_ 1 1#1
  let main_v39 : IVec S_ 1 := (fun x v => Host.reduce IntOp.andi x v reducesTo_S1024x1024_S_d0_1 h_S_) main_v38 main_c_14
  let main_v40 : FVec F S1024 .f32 := Host.absf main_arg6
  let main_cst_15 : FVec F S_ .f32 := constant S_ .f32 0x7F800000#32
  let main_v41 : FVec F S1024 .f32 := broadcastInDim S1024 ![] bcast_S_S1024 main_cst_15
  let main_v42 : IVec S1024 1 := cmpf .olt main_v40 main_v41
  let main_c_16 : IVec S_ 1 := constantI S_ 1 1#1
  let main_v43 : IVec S_ 1 := (fun x v => Host.reduce IntOp.andi x v reducesTo_S1024_S_d0 h_S_) main_v42 main_c_16
  let main_v44 : FVec F S1024x1024 .f32 := Host.absf main_arg7
  let main_cst_17 : FVec F S_ .f32 := constant S_ .f32 0x7F800000#32
  let main_v45 : FVec F S1024x1024 .f32 := broadcastInDim S1024x1024 ![] bcast_S_S1024x1024 main_cst_17
  let main_v46 : IVec S1024x1024 1 := cmpf .olt main_v44 main_v45
  let main_c_18 : IVec S_ 1 := constantI S_ 1 1#1
  let main_v47 : IVec S_ 1 := (fun x v => Host.reduce IntOp.andi x v reducesTo_S1024x1024_S_d0_1 h_S_) main_v46 main_c_18
  let main_v48 : FVec F S1024 .f32 := Host.absf main_arg8
  let main_cst_19 : FVec F S_ .f32 := constant S_ .f32 0x7F800000#32
  let main_v49 : FVec F S1024 .f32 := broadcastInDim S1024 ![] bcast_S_S1024 main_cst_19
  fn_part3 (F := F) main_v5 main_v11 main_v19 main_v23 main_v27 main_v31 main_v35 main_v39 main_v43 main_v47 main_v48 main_v49

def fn_part1 {F : FTy → Type} [FloatOps F] (main_arg0 : FVec F S16x16x1024 .f32) (main_arg1 : FVec F S1x1x16x64 .f32) (main_arg2 : FVec F S1x1x16x64 .f32) (main_arg3 : FVec F S16x16x2048x64 .f32) (main_arg5 : FVec F S1024x1024 .f32) (main_arg6 : FVec F S1024 .f32) (main_arg7 : FVec F S1024x1024 .f32) (main_arg8 : FVec F S1024 .f32) (main_arg15 : IVec S16x16 1) (main_v5 : IVec S_ 1) (main_v11 : IVec S_ 1) (main_v17 : IVec S16x16 1) : IVec S_ 1 :=
  let main_v18 : IVec S16x16 1 := cmpi .eq main_arg15 main_v17
  let main_c_5 : IVec S_ 1 := constantI S_ 1 1#1
  let main_v19 : IVec S_ 1 := (fun x v => Host.reduce IntOp.andi x v reducesTo_S16x16_S_d0_1 h_S_) main_v18 main_c_5
  let main_v20 : FVec F S16x16x1024 .f32 := Host.absf main_arg0
  let main_cst : FVec F S_ .f32 := constant S_ .f32 0x7F800000#32
  let main_v21 : FVec F S16x16x1024 .f32 := broadcastInDim S16x16x1024 ![] bcast_S_S16x16x1024 main_cst
  let main_v22 : IVec S16x16x1024 1 := cmpf .olt main_v20 main_v21
  let main_c_6 : IVec S_ 1 := constantI S_ 1 1#1
  let main_v23 : IVec S_ 1 := (fun x v => Host.reduce IntOp.andi x v reducesTo_S16x16x1024_S_d0_1_2 h_S_) main_v22 main_c_6
  let main_v24 : FVec F S1x1x16x64 .f32 := Host.absf main_arg1
  let main_cst_7 : FVec F S_ .f32 := constant S_ .f32 0x7F800000#32
  let main_v25 : FVec F S1x1x16x64 .f32 := broadcastInDim S1x1x16x64 ![] bcast_S_S1x1x16x64 main_cst_7
  let main_v26 : IVec S1x1x16x64 1 := cmpf .olt main_v24 main_v25
  let main_c_8 : IVec S_ 1 := constantI S_ 1 1#1
  let main_v27 : IVec S_ 1 := (fun x v => Host.reduce IntOp.andi x v reducesTo_S1x1x16x64_S_d0_1_2_3 h_S_) main_v26 main_c_8
  let main_v28 : FVec F S1x1x16x64 .f32 := Host.absf main_arg2
  let main_cst_9 : FVec F S_ .f32 := constant S_ .f32 0x7F800000#32
  let main_v29 : FVec F S1x1x16x64 .f32 := broadcastInDim S1x1x16x64 ![] bcast_S_S1x1x16x64 main_cst_9
  let main_v30 : IVec S1x1x16x64 1 := cmpf .olt main_v28 main_v29
  let main_c_10 : IVec S_ 1 := constantI S_ 1 1#1
  let main_v31 : IVec S_ 1 := (fun x v => Host.reduce IntOp.andi x v reducesTo_S1x1x16x64_S_d0_1_2_3 h_S_) main_v30 main_c_10
  let main_v32 : FVec F S16x16x2048x64 .f32 := Host.absf main_arg3
  let main_cst_11 : FVec F S_ .f32 := constant S_ .f32 0x7F800000#32
  let main_v33 : FVec F S16x16x2048x64 .f32 := broadcastInDim S16x16x2048x64 ![] bcast_S_S16x16x2048x64 main_cst_11
  fn_part2 (F := F) main_arg5 main_arg6 main_arg7 main_arg8 main_v5 main_v11 main_v19 main_v23 main_v27 main_v31 main_v32 main_v33

def fn {F : FTy → Type} [FloatOps F] (main_arg0 : FVec F S16x16x1024 .f32) (main_arg1 : FVec F S1x1x16x64 .f32) (main_arg2 : FVec F S1x1x16x64 .f32) (main_arg3 : FVec F S16x16x2048x64 .f32) (main_arg4 : FVec F S16x16x2048x64 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : IVec S16 32) (main_arg14 : IVec S16 32) (main_arg15 : IVec S16x16 1) : IVec S_ 1 :=
  let main_c : IVec S_ 32 := constantI S_ 32 0#32
  let main_v0 : IVec S16 32 := broadcastInDim S16 ![] bcast_S_S16 main_c
  let main_v1 : IVec S16 1 := cmpi .sge main_arg13 main_v0
  let main_c_0 : IVec S_ 32 := constantI S_ 32 2048#32
  let main_v2 : IVec S16 32 := broadcastInDim S16 ![] bcast_S_S16 main_c_0
  let main_v3 : IVec S16 1 := cmpi .sle main_arg13 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_c_2 : IVec S_ 32 := constantI S_ 32 1#32
  let main_v6 : IVec S16 32 := broadcastInDim S16 ![] bcast_S_S16 main_c_2
  let main_v7 : IVec S16 1 := cmpi .sge main_arg14 main_v6
  let main_c_3 : IVec S_ 32 := constantI S_ 32 16#32
  let main_v8 : IVec S16 32 := broadcastInDim S16 ![] bcast_S_S16 main_c_3
  let main_v9 : IVec S16 1 := cmpi .sle main_arg14 main_v8
  let main_v10 : IVec S16 1 := andi main_v7 main_v9
  let main_c_4 : IVec S_ 1 := constantI S_ 1 1#1
  let main_v11 : IVec S_ 1 := (fun x v => Host.reduce IntOp.andi x v reducesTo_S16_S_d0 h_S_) main_v10 main_c_4
  let main_v12 : IVec S16 32 := iotaInDim S16 32 0
  let main_v13 : IVec S1x16 32 := broadcastInDim S1x16 ![1] bcast_S16_S1x16_1 main_v12
  let main_v14 : IVec S16x1 32 := broadcastInDim S16x1 ![0] bcast_S16_S16x1_0 main_arg14
  let main_v15 : IVec S16x16 32 := broadcastInDim S16x16 ![0, 1] bcast_S1x16_S16x16_0_1 main_v13
  let main_v16 : IVec S16x16 32 := broadcastInDim S16x16 ![0, 1] bcast_S16x1_S16x16_0_1 main_v14
  let main_v17 : IVec S16x16 1 := cmpi .slt main_v15 main_v16
  fn_part1 (F := F) main_arg0 main_arg1 main_arg2 main_arg3 main_arg5 main_arg6 main_arg7 main_arg8 main_arg15 main_v5 main_v11 main_v17
-- ==== Kernel.lean ====
abbrev S16x16x1024 : Shape := ⟨3, ![16, 16, 1024]⟩
abbrev S1x1x16x64 : Shape := ⟨4, ![1, 1, 16, 64]⟩
abbrev S16x16x2048x64 : Shape := ⟨4, ![16, 16, 2048, 64]⟩
abbrev S1024x1024 : Shape := ⟨2, ![1024, 1024]⟩
abbrev S1024 : Shape := ⟨1, ![1024]⟩
abbrev S16 : Shape := ⟨1, ![16]⟩
abbrev S16x16 : Shape := ⟨2, ![16, 16]⟩
abbrev S256x1024 : Shape := ⟨2, ![256, 1024]⟩
abbrev S16x64 : Shape := ⟨2, ![16, 64]⟩
abbrev S1x16x1x64 : Shape := ⟨4, ![1, 16, 1, 64]⟩
abbrev S16x16x1x64 : Shape := ⟨4, ![16, 16, 1, 64]⟩
abbrev S256x64 : Shape := ⟨2, ![256, 64]⟩
abbrev S16x32 : Shape := ⟨2, ![16, 32]⟩
abbrev S1x1024 : Shape := ⟨2, ![1, 1024]⟩
abbrev S256x32 : Shape := ⟨2, ![256, 32]⟩
abbrev S1x16 : Shape := ⟨2, ![1, 16]⟩
abbrev S2x16 : Shape := ⟨2, ![2, 16]⟩
abbrev S16x16x64x2048 : Shape := ⟨4, ![16, 16, 64, 2048]⟩
abbrev S1x16x1024 : Shape := ⟨3, ![1, 16, 1024]⟩
abbrev S1x16x64x2048 : Shape := ⟨4, ![1, 16, 64, 2048]⟩
abbrev S1x1 : Shape := ⟨2, ![1, 1]⟩
abbrev S16x1024 : Shape := ⟨2, ![16, 1024]⟩
abbrev S1x2048 : Shape := ⟨2, ![1, 2048]⟩
abbrev S1x2064 : Shape := ⟨2, ![1, 2064]⟩
abbrev S1x1x64x2048 : Shape := ⟨4, ![1, 1, 64, 2048]⟩
abbrev S64x2048 : Shape := ⟨2, ![64, 2048]⟩
abbrev S16x2048 : Shape := ⟨2, ![16, 2048]⟩
abbrev S16x2064 : Shape := ⟨2, ![16, 2064]⟩
abbrev S16x1 : Shape := ⟨2, ![16, 1]⟩

abbrev nBuf : Space → Nat
  | .hbm => 44
  | .vmem => 26
  | .smem => 1
  | _ => 0

abbrev bufTy : (tb : Table) → Fin (tcTables nBuf tb) → BufTy
  | .hbm, ⟨0, _⟩ => ⟨S16x16x1024, .f32⟩
  | .hbm, ⟨1, _⟩ => ⟨S1x1x16x64, .f32⟩
  | .hbm, ⟨2, _⟩ => ⟨S1x1x16x64, .f32⟩
  | .hbm, ⟨3, _⟩ => ⟨S16x16x2048x64, .f32⟩
  | .hbm, ⟨4, _⟩ => ⟨S16x16x2048x64, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S16, .i32⟩
  | .hbm, ⟨14, _⟩ => ⟨S16, .i32⟩
  | .hbm, ⟨15, _⟩ => ⟨S16x16, .i1⟩
  | .hbm, ⟨16, _⟩ => ⟨S256x1024, .f32⟩
  | .hbm, ⟨17, _⟩ => ⟨S16x64, .f32⟩
  | .hbm, ⟨18, _⟩ => ⟨S1x16x1x64, .f32⟩
  | .hbm, ⟨19, _⟩ => ⟨S16x16x1x64, .f32⟩
  | .hbm, ⟨20, _⟩ => ⟨S256x64, .f32⟩
  | .hbm, ⟨21, _⟩ => ⟨S16x64, .f32⟩
  | .hbm, ⟨22, _⟩ => ⟨S16x32, .f32⟩
  | .hbm, ⟨23, _⟩ => ⟨S16x32, .f32⟩
  | .hbm, ⟨24, _⟩ => ⟨S16x32, .f32⟩
  | .hbm, ⟨25, _⟩ => ⟨S16x64, .f32⟩
  | .hbm, ⟨26, _⟩ => ⟨S1x16x1x64, .f32⟩
  | .hbm, ⟨27, _⟩ => ⟨S16x16x1x64, .f32⟩
  | .hbm, ⟨28, _⟩ => ⟨S256x64, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S1x16, .i32⟩
  | .hbm, ⟨36, _⟩ => ⟨S1x16, .i32⟩
  | .hbm, ⟨37, _⟩ => ⟨S16x16x1024, .f32⟩
  | .hbm, ⟨38, _⟩ => ⟨S16x16x1024, .f32⟩
  | .hbm, ⟨39, _⟩ => ⟨S16x16x1024, .f32⟩
  | .hbm, ⟨40, _⟩ => ⟨S16x16x64x2048, .f32⟩
  | .hbm, ⟨41, _⟩ => ⟨S16x16x64x2048, .f32⟩
  | .hbm, ⟨42, _⟩ => ⟨S1x1024, .f32⟩
  | .hbm, ⟨43, _⟩ => ⟨S16x16x1024, .f32⟩
  | .local _ .vmem, ⟨0, _⟩ => ⟨S256x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S256x64, .f32⟩
  | .local _ .vmem, ⟨8, _⟩ => ⟨S256x64, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x16x1024, .f32⟩
  | .local _ .vmem, ⟨13, _⟩ => ⟨S1x16x1024, .f32⟩
  | .local _ .vmem, ⟨14, _⟩ => ⟨S1x16x1024, .f32⟩
  | .local _ .vmem, ⟨15, _⟩ => ⟨S1x16x1024, .f32⟩
  | .local _ .vmem, ⟨16, _⟩ => ⟨S1x16x1024, .f32⟩
  | .local _ .vmem, ⟨17, _⟩ => ⟨S1x16x1024, .f32⟩
  | .local _ .vmem, ⟨18, _⟩ => ⟨S1x16x64x2048, .f32⟩
  | .local _ .vmem, ⟨19, _⟩ => ⟨S1x16x64x2048, .f32⟩
  | .local _ .vmem, ⟨20, _⟩ => ⟨S1x16x64x2048, .f32⟩
  | .local _ .vmem, ⟨21, _⟩ => ⟨S1x16x64x2048, .f32⟩
  | .local _ .vmem, ⟨22, _⟩ => ⟨S1024x1024, .f32⟩
  | .local _ .vmem, ⟨23, _⟩ => ⟨S1x1024, .f32⟩
  | .local _ .vmem, ⟨24, _⟩ => ⟨S1x16x1024, .f32⟩
  | .local _ .vmem, ⟨25, _⟩ => ⟨S1x16x1024, .f32⟩
  | .local _ .smem, ⟨0, _⟩ => ⟨S2x16, .i32⟩
  | _, _ => ⟨S16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev main_v16_2 : Ref sig .tc := ⟨.hbm, 34, rfl⟩
abbrev main_v17 : Ref sig .tc := ⟨.hbm, 35, rfl⟩
abbrev main_v18 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v19 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem6_0 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev grid1 : Pipeline.Grid := ⟨1, ![16], ![false]⟩

abbrev pre1 : Pipeline.Prefetch sig := ⟨1, ![main_v19.idx], fun | 0 => main_v19.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 2 → Nat :=
  let c0 : Index := 0#32
  let arg0 : BitVec 32 := BitVec.ofNat 32 (i 0).val
  let v0 : Index := Scalar.indexCast arg0
  ![0, v0.toNat]
def k1_off2 (i : grid1.Coords) : Fin 2 → Nat :=
  let c1 : Index := 1#32
  let arg0 : BitVec 32 := BitVec.ofNat 32 (i 0).val
  let v2 : Index := Scalar.indexCast arg0
  ![1, v2.toNat]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x16x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x16x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x16x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x16x64x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x16x64x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x16x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S16x16x1024 : Shape := ⟨3, ![16, 16, 1024]⟩
abbrev S1x1x16x64 : Shape := ⟨4, ![1, 1, 16, 64]⟩
abbrev S16x16x2048x64 : Shape := ⟨4, ![16, 16, 2048, 64]⟩
abbrev S1024x1024 : Shape := ⟨2, ![1024, 1024]⟩
abbrev S1024 : Shape := ⟨1, ![1024]⟩
abbrev S16 : Shape := ⟨1, ![16]⟩
abbrev S16x16 : Shape := ⟨2, ![16, 16]⟩
abbrev S1x1x1024 : Shape := ⟨3, ![1, 1, 1024]⟩
abbrev S16x16x16x64 : Shape := ⟨4, ![16, 16, 16, 64]⟩
abbrev S16x16x16x32 : Shape := ⟨4, ![16, 16, 16, 32]⟩
abbrev S16x1x16x1 : Shape := ⟨4, ![16, 1, 16, 1]⟩
abbrev S2064 : Shape := ⟨1, ![2064]⟩
abbrev S1x2064 : Shape := ⟨2, ![1, 2064]⟩
abbrev S16x1 : Shape := ⟨2, ![16, 1]⟩
abbrev S16x2064 : Shape := ⟨2, ![16, 2064]⟩
abbrev S_ : Shape := ⟨0, ![]⟩
abbrev S2064x1 : Shape := ⟨2, ![2064, 1]⟩
abbrev S16x16x2064x64 : Shape := ⟨4, ![16, 16, 2064, 64]⟩
abbrev S16x2064x1 : Shape := ⟨3, ![16, 2064, 1]⟩
abbrev S16x2064x2 : Shape := ⟨3, ![16, 2064, 2]⟩
abbrev S16x2064x16x64 : Shape := ⟨4, ![16, 2064, 16, 64]⟩
abbrev S16x1x2064x1 : Shape := ⟨4, ![16, 1, 2064, 1]⟩
abbrev S16x16x16x2064 : Shape := ⟨4, ![16, 16, 16, 2064]⟩
abbrev S16x1x1x2064 : Shape := ⟨4, ![16, 1, 1, 2064]⟩
abbrev S16x16x16 : Shape := ⟨3, ![16, 16, 16]⟩
abbrev S16x16x16x1 : Shape := ⟨4, ![16, 16, 16, 1]⟩
abbrev S16x16x1 : Shape := ⟨3, ![16, 16, 1]⟩

abbrev nBuf : Space → Nat
  | .hbm => 212
  | .vmem => 0
  | .smem => 0
  | _ => 0

abbrev hbmTy0_0 (i : Nat) : BufTy := match i % 128 with
  | 0 => ⟨S16x16x1024, .f32⟩
  | 1 => ⟨S1x1x16x64, .f32⟩
  | 2 => ⟨S1x1x16x64, .f32⟩
  | 3 => ⟨S16x16x2048x64, .f32⟩
  | 4 => ⟨S16x16x2048x64, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S1024x1024, .f32⟩
  | 12 => ⟨S1024, .f32⟩
  | 13 => ⟨S16, .i32⟩
  | 14 => ⟨S16, .i32⟩
  | 15 => ⟨S16x16, .i1⟩
  | 16 => ⟨S1024x1024, .f32⟩
  | 17 => ⟨S16x16x1024, .f32⟩
  | 18 => ⟨S1x1x1024, .f32⟩
  | 19 => ⟨S16x16x1024, .f32⟩
  | 20 => ⟨S16x16x1024, .f32⟩
  | 21 => ⟨S16x16x16x64, .f32⟩
  | 22 => ⟨S16x16x16x64, .f32⟩
  | 23 => ⟨S1024x1024, .f32⟩
  | 24 => ⟨S16x16x1024, .f32⟩
  | 25 => ⟨S1x1x1024, .f32⟩
  | 26 => ⟨S16x16x1024, .f32⟩
  | 27 => ⟨S16x16x1024, .f32⟩
  | 28 => ⟨S16x16x16x64, .f32⟩
  | 29 => ⟨S16x16x16x64, .f32⟩
  | 30 => ⟨S1024x1024, .f32⟩
  | 31 => ⟨S16x16x1024, .f32⟩
  | 32 => ⟨S1x1x1024, .f32⟩
  | 33 => ⟨S16x16x1024, .f32⟩
  | 34 => ⟨S16x16x1024, .f32⟩
  | 35 => ⟨S16x16x16x64, .f32⟩
  | 36 => ⟨S16x16x16x64, .f32⟩
  | 37 => ⟨S16x16x16x64, .f32⟩
  | 38 => ⟨S16x16x16x64, .f32⟩
  | 39 => ⟨S16x16x16x32, .f32⟩
  | 40 => ⟨S16x16x16x32, .f32⟩
  | 41 => ⟨S16x16x16x32, .f32⟩
  | 42 => ⟨S16x16x16x64, .f32⟩
  | 43 => ⟨S16x16x16x64, .f32⟩
  | 44 => ⟨S16x16x16x64, .f32⟩
  | 45 => ⟨S16x16x16x64, .f32⟩
  | 46 => ⟨S16x16x16x64, .f32⟩
  | 47 => ⟨S16x16x16x64, .f32⟩
  | 48 => ⟨S16x16x16x32, .f32⟩
  | 49 => ⟨S16x16x16x32, .f32⟩
  | 50 => ⟨S16x16x16x32, .f32⟩
  | 51 => ⟨S16x16x16x64, .f32⟩
  | 52 => ⟨S16x16x16x64, .f32⟩
  | 53 => ⟨S16x16x16x64, .f32⟩
  | 54 => ⟨S16x16x16x64, .f32⟩
  | 55 => ⟨S16x1x16x1, .i1⟩
  | 56 => ⟨S16x1x16x1, .f32⟩
  | 57 => ⟨S16x16x16x64, .f32⟩
  | 58 => ⟨S16x16x16x64, .f32⟩
  | 59 => ⟨S16x16x16x64, .f32⟩
  | 60 => ⟨S16x16x16x64, .f32⟩
  | 61 => ⟨S16x16x16x64, .f32⟩
  | 62 => ⟨S16x16x16x64, .f32⟩
  | 63 => ⟨S16, .i32⟩
  | 64 => ⟨S2064, .i32⟩
  | 65 => ⟨S1x2064, .i32⟩
  | 66 => ⟨S16x1, .i32⟩
  | 67 => ⟨S16x2064, .i32⟩
  | 68 => ⟨S16x2064, .i32⟩
  | 69 => ⟨S16x2064, .i1⟩
  | 70 => ⟨S16x2064, .i1⟩
  | 71 => ⟨S1x2064, .i32⟩
  | 72 => ⟨S16x1, .i32⟩
  | 73 => ⟨S16x2064, .i32⟩
  | 74 => ⟨S16x2064, .i32⟩
  | 75 => ⟨S16x2064, .i1⟩
  | 76 => ⟨S16x2064, .i1⟩
  | 77 => ⟨S_, .i32⟩
  | 78 => ⟨S2064, .i32⟩
  | 79 => ⟨S2064, .i32⟩
  | 80 => ⟨S_, .i32⟩
  | 81 => ⟨S2064, .i32⟩
  | 82 => ⟨S2064, .i1⟩
  | 83 => ⟨S_, .i32⟩
  | 84 => ⟨S2064, .i32⟩
  | 85 => ⟨S2064, .i32⟩
  | 86 => ⟨S2064, .i32⟩
  | 87 => ⟨S2064x1, .i32⟩
  | 88 => ⟨S16x16x2064x64, .f32⟩
  | 89 => ⟨S_, .i32⟩
  | 90 => ⟨S2064, .i32⟩
  | 91 => ⟨S2064, .i1⟩
  | 92 => ⟨S_, .i32⟩
  | 93 => ⟨S2064, .i32⟩
  | 94 => ⟨S2064, .i32⟩
  | 95 => ⟨S2064, .i32⟩
  | 96 => ⟨S2064x1, .i32⟩
  | 97 => ⟨S16x16x2064x64, .f32⟩
  | 98 => ⟨S1x2064, .i32⟩
  | 99 => ⟨S16x1, .i32⟩
  | 100 => ⟨S16x2064, .i32⟩
  | 101 => ⟨S16x2064, .i32⟩
  | 102 => ⟨S16x2064, .i32⟩
  | 103 => ⟨S_, .i32⟩
  | 104 => ⟨S16x2064, .i32⟩
  | 105 => ⟨S16x2064, .i32⟩
  | 106 => ⟨S_, .i32⟩
  | 107 => ⟨S16x2064, .i32⟩
  | 108 => ⟨S16x2064, .i32⟩
  | 109 => ⟨S16, .i32⟩
  | 110 => ⟨S16x1, .i32⟩
  | 111 => ⟨S_, .i32⟩
  | 112 => ⟨S16x1, .i32⟩
  | 113 => ⟨S16x1, .i1⟩
  | 114 => ⟨S_, .i32⟩
  | 115 => ⟨S16x1, .i32⟩
  | 116 => ⟨S16x1, .i32⟩
  | 117 => ⟨S16x1, .i32⟩
  | 118 => ⟨S_, .i32⟩
  | 119 => ⟨S16x2064, .i32⟩
  | 120 => ⟨S16x2064, .i1⟩
  | 121 => ⟨S_, .i32⟩
  | 122 => ⟨S16x2064, .i32⟩
  | 123 => ⟨S16x2064, .i32⟩
  | 124 => ⟨S16x2064, .i32⟩
  | 125 => ⟨S16x2064, .i32⟩
  | 126 => ⟨S16x2064x1, .i32⟩
  | 127 => ⟨S16x2064x1, .i32⟩
  | _ => ⟨S16x16x1024, .f32⟩

abbrev hbmTy0_1 (i : Nat) : BufTy := match i % 128 with
  | 0 => ⟨S16x2064x2, .i32⟩
  | 1 => ⟨S16x2064x16x64, .f32⟩
  | 2 => ⟨S16x16x2064x64, .f32⟩
  | 3 => ⟨S_, .i32⟩
  | 4 => ⟨S16x1, .i32⟩
  | 5 => ⟨S16x1, .i1⟩
  | 6 => ⟨S_, .i32⟩
  | 7 => ⟨S16x1, .i32⟩
  | 8 => ⟨S16x1, .i32⟩
  | 9 => ⟨S16x1, .i32⟩
  | 10 => ⟨S_, .i32⟩
  | 11 => ⟨S16x2064, .i32⟩
  | 12 => ⟨S16x2064, .i1⟩
  | 13 => ⟨S_, .i32⟩
  | 14 => ⟨S16x2064, .i32⟩
  | 15 => ⟨S16x2064, .i32⟩
  | 16 => ⟨S16x2064, .i32⟩
  | 17 => ⟨S16x2064, .i32⟩
  | 18 => ⟨S16x2064x1, .i32⟩
  | 19 => ⟨S16x2064x1, .i32⟩
  | 20 => ⟨S16x2064x2, .i32⟩
  | 21 => ⟨S16x2064x16x64, .f32⟩
  | 22 => ⟨S16x16x2064x64, .f32⟩
  | 23 => ⟨S16x1x2064x1, .i1⟩
  | 24 => ⟨S16x1x2064x1, .i1⟩
  | 25 => ⟨S16x16x2064x64, .i1⟩
  | 26 => ⟨S_, .f32⟩
  | 27 => ⟨S16x16x2064x64, .f32⟩
  | 28 => ⟨S16x16x2064x64, .f32⟩
  | 29 => ⟨S16x16x2064x64, .i1⟩
  | 30 => ⟨S_, .f32⟩
  | 31 => ⟨S16x16x2064x64, .f32⟩
  | 32 => ⟨S16x16x2064x64, .f32⟩
  | 33 => ⟨S16x16x2064x64, .f32⟩
  | 34 => ⟨S16x16x2064x64, .i1⟩
  | 35 => ⟨S_, .f32⟩
  | 36 => ⟨S16x16x2064x64, .f32⟩
  | 37 => ⟨S16x16x2064x64, .f32⟩
  | 38 => ⟨S16x16x2064x64, .i1⟩
  | 39 => ⟨S_, .f32⟩
  | 40 => ⟨S16x16x2064x64, .f32⟩
  | 41 => ⟨S16x16x2064x64, .f32⟩
  | 42 => ⟨S16x16x2064x64, .f32⟩
  | 43 => ⟨S1x2064, .i32⟩
  | 44 => ⟨S16x1, .i32⟩
  | 45 => ⟨S16x2064, .i32⟩
  | 46 => ⟨S16x2064, .i32⟩
  | 47 => ⟨S16x2064, .i1⟩
  | 48 => ⟨S16x16x16x2064, .f32⟩
  | 49 => ⟨S_, .f32⟩
  | 50 => ⟨S_, .f32⟩
  | 51 => ⟨S16x16x16x2064, .f32⟩
  | 52 => ⟨S16x16x16x2064, .f32⟩
  | 53 => ⟨S16x1x1x2064, .i1⟩
  | 54 => ⟨S16x16x16x2064, .i1⟩
  | 55 => ⟨S_, .f32⟩
  | 56 => ⟨S16x16x16x2064, .f32⟩
  | 57 => ⟨S16x16x16x2064, .f32⟩
  | 58 => ⟨S_, .f32⟩
  | 59 => ⟨S16x16x16, .f32⟩
  | 60 => ⟨S_, .f32⟩
  | 61 => ⟨S16x16x16, .f32⟩
  | 62 => ⟨S16x16x16, .f32⟩
  | 63 => ⟨S16x16x16x1, .f32⟩
  | 64 => ⟨S16x16x16x2064, .f32⟩
  | 65 => ⟨S16x16x16x2064, .f32⟩
  | 66 => ⟨S16x16x16x2064, .f32⟩
  | 67 => ⟨S_, .f32⟩
  | 68 => ⟨S16x16x16, .f32⟩
  | 69 => ⟨S16x16x16x1, .f32⟩
  | 70 => ⟨S16x16x16x2064, .f32⟩
  | 71 => ⟨S16x16x16x2064, .f32⟩
  | 72 => ⟨S16x16x16x64, .f32⟩
  | 73 => ⟨S16x16x16x64, .f32⟩
  | 74 => ⟨S16x16x1024, .f32⟩
  | 75 => ⟨S1024x1024, .f32⟩
  | 76 => ⟨S16x16x1024, .f32⟩
  | 77 => ⟨S1x1x1024, .f32⟩
  | 78 => ⟨S16x16x1024, .f32⟩
  | 79 => ⟨S16x16x1024, .f32⟩
  | 80 => ⟨S16x16x1, .i1⟩
  | 81 => ⟨S16x16x1, .f32⟩
  | 82 => ⟨S16x16x1024, .f32⟩
  | 83 => ⟨S16x16x1024, .f32⟩
  | _ => ⟨S16x16x1024, .f32⟩

abbrev hbmTy (i : Nat) : BufTy := match i / 128 with
  | 0 => hbmTy0_0 i
  | 1 => hbmTy0_1 i
  | _ => ⟨S16x16x1024, .f32⟩

abbrev bufTy : (tb : Table) → Fin (tcTables nBuf tb) → BufTy
  | .hbm, ⟨i, _⟩ => hbmTy i
  | _, _ => ⟨S16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_c : Ref sig .tc := ⟨.hbm, 77, rfl⟩
abbrev main_v61 : Ref sig .tc := ⟨.hbm, 78, rfl⟩
abbrev main_v62 : Ref sig .tc := ⟨.hbm, 79, rfl⟩
abbrev main_c_0 : Ref sig .tc := ⟨.hbm, 80, rfl⟩
abbrev main_v63 : Ref sig .tc := ⟨.hbm, 81, rfl⟩
abbrev main_v64 : Ref sig .tc := ⟨.hbm, 82, rfl⟩
abbrev main_c_1 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_c_2 : Ref sig .tc := ⟨.hbm, 89, rfl⟩
abbrev main_v70 : Ref sig .tc := ⟨.hbm, 90, rfl⟩
abbrev main_v71 : Ref sig .tc := ⟨.hbm, 91, rfl⟩
abbrev main_c_3 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_c_4 : Ref sig .tc := ⟨.hbm, 103, rfl⟩
abbrev main_v82 : Ref sig .tc := ⟨.hbm, 104, rfl⟩
abbrev main_v83 : Ref sig .tc := ⟨.hbm, 105, rfl⟩
abbrev main_c_5 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_c_6 : Ref sig .tc := ⟨.hbm, 111, rfl⟩
abbrev main_v88 : Ref sig .tc := ⟨.hbm, 112, rfl⟩
abbrev main_v89 : Ref sig .tc := ⟨.hbm, 113, rfl⟩
abbrev main_c_7 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_c_8 : Ref sig .tc := ⟨.hbm, 118, rfl⟩
abbrev main_v93 : Ref sig .tc := ⟨.hbm, 119, rfl⟩
abbrev main_v94 : Ref sig .tc := ⟨.hbm, 120, rfl⟩
abbrev main_c_9 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_c_10 : Ref sig .tc := ⟨.hbm, 131, rfl⟩
abbrev main_v104 : Ref sig .tc := ⟨.hbm, 132, rfl⟩
abbrev main_v105 : Ref sig .tc := ⟨.hbm, 133, rfl⟩
abbrev main_c_11 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_c_12 : Ref sig .tc := ⟨.hbm, 138, rfl⟩
abbrev main_v109 : Ref sig .tc := ⟨.hbm, 139, rfl⟩
abbrev main_v110 : Ref sig .tc := ⟨.hbm, 140, rfl⟩
abbrev main_c_13 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_cst : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_cst_14 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_cst_15 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_cst_16 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_cst_17 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_cst_18 : Ref sig .tc := ⟨.hbm, 183, rfl⟩
abbrev main_v147 : Ref sig .tc := ⟨.hbm, 184, rfl⟩
abbrev main_v148 : Ref sig .tc := ⟨.hbm, 185, rfl⟩
abbrev main_cst_19 : Ref sig .tc := ⟨.hbm, 186, rfl⟩
abbrev main_v149 : Ref sig .tc := ⟨.hbm, 187, rfl⟩
abbrev main_cst_20 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_cst_21 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩

abbrev nD : Nat := 1
abbrev τ : Topo := Topo.v7x

variable {F : FTy → Type} [FloatOps F]
-- ==== Proof.IdealRun.Heads.lean ====
/- The vectors the two kernel bodies compute, each written once: a projection of the stacked rows, the rotary
   turn of one head, one head of the attention, and the closing projection. Every definition is stated over any
   arithmetic of floats. -/
module

public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- Rows times a weight matrix, plus a bias row. -/
def projRows (x : FVec F S256x1024 .f32) (w : FVec F S1024x1024 .f32) (b : FVec F S1x1024 .f32) : FVec F S256x1024 .f32 :=
  addf (matmul dot_S256x1024_S1024x1024_S256x1024_1_1_0_0_n_n none x w (constant S256x1024 .f32 0x00000000#32))
    (broadcastTo S256x1024 b broadcasts_S1x1024_S256x1024)

/-- The rotary turn of the 64 columns of `y` that start at column `o`: those columns times the cosines, plus the
    columns with their halves exchanged times the signed sines. -/
def ropeCols (o : ℕ) (hs : S256x1024.Slices ![0, o] S256x64) (y : FVec F S256x1024 .f32) (c s : FVec F S256x64 .f32) :
    FVec F S256x64 .f32 :=
  addf (mulf (extractStridedSlice S256x64 ![0, o] y hs) c)
    (mulf (concatenate S256x64 1
      [⟨S256x32, extractStridedSlice S256x32 ![0, 32] (extractStridedSlice S256x64 ![0, o] y hs) slices_S256x64_o0_32_S256x32⟩,
       ⟨S256x32, extractStridedSlice S256x32 ![0, 0] (extractStridedSlice S256x64 ![0, o] y hs) slices_S256x64_o0_0_S256x32⟩]
      concatenates_S256x32_S256x32_S256x64_d1) s)

/-- The rotary turn of all sixteen heads, side by side. -/
def ropeRows (y : FVec F S256x1024 .f32) (c s : FVec F S256x64 .f32) : FVec F S256x1024 .f32 :=
  concatenate S256x1024 1 [
    ⟨S256x64, ropeCols 0 slices_S256x1024_o0_0_S256x64 y c s⟩,
    ⟨S256x64, ropeCols 64 slices_S256x1024_o0_64_S256x64 y c s⟩,
    ⟨S256x64, ropeCols 128 slices_S256x1024_o0_128_S256x64 y c s⟩,
    ⟨S256x64, ropeCols 192 slices_S256x1024_o0_192_S256x64 y c s⟩,
    ⟨S256x64, ropeCols 256 slices_S256x1024_o0_256_S256x64 y c s⟩,
    ⟨S256x64, ropeCols 320 slices_S256x1024_o0_320_S256x64 y c s⟩,
    ⟨S256x64, ropeCols 384 slices_S256x1024_o0_384_S256x64 y c s⟩,
    ⟨S256x64, ropeCols 448 slices_S256x1024_o0_448_S256x64 y c s⟩,
    ⟨S256x64, ropeCols 512 slices_S256x1024_o0_512_S256x64 y c s⟩,
    ⟨S256x64, ropeCols 576 slices_S256x1024_o0_576_S256x64 y c s⟩,
    ⟨S256x64, ropeCols 640 slices_S256x1024_o0_640_S256x64 y c s⟩,
    ⟨S256x64, ropeCols 704 slices_S256x1024_o0_704_S256x64 y c s⟩,
    ⟨S256x64, ropeCols 768 slices_S256x1024_o0_768_S256x64 y c s⟩,
    ⟨S256x64, ropeCols 832 slices_S256x1024_o0_832_S256x64 y c s⟩,
    ⟨S256x64, ropeCols 896 slices_S256x1024_o0_896_S256x64 y c s⟩,
    ⟨S256x64, ropeCols 960 slices_S256x1024_o0_960_S256x64 y c s⟩] concatenates_S256x64_S256x64_S256x64_S256x64_S256x64_S256x64_S256x64_S256x64_S256x64_S256x64_S256x64_S256x64_S256x64_S256x64_S256x64_S256x64_S256x1024_d1

/-- One head's scores: the scaled query columns against the head's past keys and its new keys, plus the mask row. -/
def headScores (o : ℕ) (hs : S16x1024.Slices ![0, o] S16x64) (q k : FVec F S16x1024 .f32) (bias : FVec F S1x2064 .f32)
    (kt : FVec F S1x1x64x2048 .f32) : FVec F S16x2064 .f32 :=
  addf (concatenate S16x2064 1
      [⟨S16x2048, matmul dot_S16x64_S64x2048_S16x2048_1_0_0_1_n_n none
          (mulf (extractStridedSlice S16x64 ![0, o] q hs) (broadcast S16x64 (Scalar.ofBits .f32 0x3E000000#32 : F .f32)))
          (shapeCast S64x2048 kt shapeCasts_S1x1x64x2048_S64x2048) (constant S16x2048 .f32 0x00000000#32)⟩,
       ⟨S16x16, matmul dot_S16x64_S16x64_S16x16_1_1_0_0_n_n none
          (mulf (extractStridedSlice S16x64 ![0, o] q hs) (broadcast S16x64 (Scalar.ofBits .f32 0x3E000000#32 : F .f32)))
          (extractStridedSlice S16x64 ![0, o] k hs) (constant S16x16 .f32 0x00000000#32)⟩]
      concatenates_S16x2048_S16x16_S16x2064_d1)
    (broadcastTo S16x2064 bias broadcasts_S1x2064_S16x2064)

/-- The row maxima of a score block, as a column. -/
def rowMax (s : FVec F S16x2064 .f32) : FVec F S16x1 .f32 :=
  shapeCast S16x1 (multiReduction .maximumf [1] S16 s 0xFF800000#32 reduces_S16x2064_S16 (.inl rfl) rfl) shapeCasts_S16_S16x1

/-- The row sums of a block, as a column. -/
def rowSum (s : FVec F S16x2064 .f32) : FVec F S16x1 .f32 :=
  shapeCast S16x1 (multiReduction .add [1] S16 s 0x00000000#32 reduces_S16x2064_S16 (.inl rfl) rfl) shapeCasts_S16_S16x1

/-- The exponentials of the scores below their row's maximum. -/
def headExp (s : FVec F S16x2064 .f32) : FVec F S16x2064 .f32 :=
  exp (subf s (broadcastTo S16x2064 (rowMax s) broadcasts_S16x1_S16x2064))

/-- One head's output from its exponentials: their sum against the past and the new values, divided by the row sum. -/
def headMix (o : ℕ) (hs : S16x1024.Slices ![0, o] S16x64) (p : FVec F S16x2064 .f32) (v : FVec F S16x1024 .f32)
    (vt : FVec F S1x1x64x2048 .f32) : FVec F S16x64 .f32 :=
  mulf (addf
      (matmul dot_S16x2048_S64x2048_S16x64_1_1_0_0_n_n none
        (extractStridedSlice S16x2048 ![0, 0] p slices_S16x2064_o0_0_S16x2048)
        (shapeCast S64x2048 vt shapeCasts_S1x1x64x2048_S64x2048) (constant S16x64 .f32 0x00000000#32))
      (matmul dot_S16x16_S16x64_S16x64_1_0_0_1_n_n none
        (extractStridedSlice S16x16 ![0, 2048] p slices_S16x2064_o0_2048_S16x16)
        (extractStridedSlice S16x64 ![0, o] v hs) (constant S16x64 .f32 0x00000000#32)))
    (broadcastTo S16x64 (divf (broadcast S16x1 (Scalar.ofBits .f32 0x3F800000#32 : F .f32)) (rowSum p)) broadcasts_S16x1_S16x64)

/-- One head of the attention. -/
def headOut (o : ℕ) (hs : S16x1024.Slices ![0, o] S16x64) (q k v : FVec F S16x1024 .f32) (bias : FVec F S1x2064 .f32)
    (kt vt : FVec F S1x1x64x2048 .f32) : FVec F S16x64 .f32 :=
  headMix o hs (headExp (headScores o hs q k bias kt)) v vt

/-- Head `h`'s plane of a cache block. -/
abbrev plane (h : ℕ) (hin : ∀ a, (![0, h, 0, 0] : Fin 4 → Nat) a + S1x1x64x2048.size a ≤ S1x16x64x2048.size a)
    (x : Vec F S1x16x64x2048 .f32) : Vec F S1x1x64x2048 .f32 :=
  View.ld x (Rect.unit (s := S1x16x64x2048) ![0, h, 0, 0] S1x1x64x2048.size hin)

/-- The sixteen heads side by side. -/
def headsOut (q k v : FVec F S16x1024 .f32) (bias : FVec F S1x2064 .f32) (kt vt : Vec F S1x16x64x2048 .f32) :
    FVec F S16x1024 .f32 :=
  concatenate S16x1024 1 [
    ⟨S16x64, headOut 0 slices_S16x1024_o0_0_S16x64 q k v bias
      (plane 0 inb_S1x16x64x2048_S1x1x64x2048_0_0_0_0 kt) (plane 0 inb_S1x16x64x2048_S1x1x64x2048_0_0_0_0 vt)⟩,
    ⟨S16x64, headOut 64 slices_S16x1024_o0_64_S16x64 q k v bias
      (plane 1 inb_S1x16x64x2048_S1x1x64x2048_0_1_0_0 kt) (plane 1 inb_S1x16x64x2048_S1x1x64x2048_0_1_0_0 vt)⟩,
    ⟨S16x64, headOut 128 slices_S16x1024_o0_128_S16x64 q k v bias
      (plane 2 inb_S1x16x64x2048_S1x1x64x2048_0_2_0_0 kt) (plane 2 inb_S1x16x64x2048_S1x1x64x2048_0_2_0_0 vt)⟩,
    ⟨S16x64, headOut 192 slices_S16x1024_o0_192_S16x64 q k v bias
      (plane 3 inb_S1x16x64x2048_S1x1x64x2048_0_3_0_0 kt) (plane 3 inb_S1x16x64x2048_S1x1x64x2048_0_3_0_0 vt)⟩,
    ⟨S16x64, headOut 256 slices_S16x1024_o0_256_S16x64 q k v bias
      (plane 4 inb_S1x16x64x2048_S1x1x64x2048_0_4_0_0 kt) (plane 4 inb_S1x16x64x2048_S1x1x64x2048_0_4_0_0 vt)⟩,
    ⟨S16x64, headOut 320 slices_S16x1024_o0_320_S16x64 q k v bias
      (plane 5 inb_S1x16x64x2048_S1x1x64x2048_0_5_0_0 kt) (plane 5 inb_S1x16x64x2048_S1x1x64x2048_0_5_0_0 vt)⟩,
    ⟨S16x64, headOut 384 slices_S16x1024_o0_384_S16x64 q k v bias
      (plane 6 inb_S1x16x64x2048_S1x1x64x2048_0_6_0_0 kt) (plane 6 inb_S1x16x64x2048_S1x1x64x2048_0_6_0_0 vt)⟩,
    ⟨S16x64, headOut 448 slices_S16x1024_o0_448_S16x64 q k v bias
      (plane 7 inb_S1x16x64x2048_S1x1x64x2048_0_7_0_0 kt) (plane 7 inb_S1x16x64x2048_S1x1x64x2048_0_7_0_0 vt)⟩,
    ⟨S16x64, headOut 512 slices_S16x1024_o0_512_S16x64 q k v bias
      (plane 8 inb_S1x16x64x2048_S1x1x64x2048_0_8_0_0 kt) (plane 8 inb_S1x16x64x2048_S1x1x64x2048_0_8_0_0 vt)⟩,
    ⟨S16x64, headOut 576 slices_S16x1024_o0_576_S16x64 q k v bias
      (plane 9 inb_S1x16x64x2048_S1x1x64x2048_0_9_0_0 kt) (plane 9 inb_S1x16x64x2048_S1x1x64x2048_0_9_0_0 vt)⟩,
    ⟨S16x64, headOut 640 slices_S16x1024_o0_640_S16x64 q k v bias
      (plane 10 inb_S1x16x64x2048_S1x1x64x2048_0_10_0_0 kt) (plane 10 inb_S1x16x64x2048_S1x1x64x2048_0_10_0_0 vt)⟩,
    ⟨S16x64, headOut 704 slices_S16x1024_o0_704_S16x64 q k v bias
      (plane 11 inb_S1x16x64x2048_S1x1x64x2048_0_11_0_0 kt) (plane 11 inb_S1x16x64x2048_S1x1x64x2048_0_11_0_0 vt)⟩,
    ⟨S16x64, headOut 768 slices_S16x1024_o0_768_S16x64 q k v bias
      (plane 12 inb_S1x16x64x2048_S1x1x64x2048_0_12_0_0 kt) (plane 12 inb_S1x16x64x2048_S1x1x64x2048_0_12_0_0 vt)⟩,
    ⟨S16x64, headOut 832 slices_S16x1024_o0_832_S16x64 q k v bias
      (plane 13 inb_S1x16x64x2048_S1x1x64x2048_0_13_0_0 kt) (plane 13 inb_S1x16x64x2048_S1x1x64x2048_0_13_0_0 vt)⟩,
    ⟨S16x64, headOut 896 slices_S16x1024_o0_896_S16x64 q k v bias
      (plane 14 inb_S1x16x64x2048_S1x1x64x2048_0_14_0_0 kt) (plane 14 inb_S1x16x64x2048_S1x1x64x2048_0_14_0_0 vt)⟩,
    ⟨S16x64, headOut 960 slices_S16x1024_o0_960_S16x64 q k v bias
      (plane 15 inb_S1x16x64x2048_S1x1x64x2048_0_15_0_0 kt) (plane 15 inb_S1x16x64x2048_S1x1x64x2048_0_15_0_0 vt)⟩] concatenates_S16x64_S16x64_S16x64_S16x64_S16x64_S16x64_S16x64_S16x64_S16x64_S16x64_S16x64_S16x64_S16x64_S16x64_S16x64_S16x64_S16x1024_d1

end Cert.KernelIdeal.Run

end
-- ==== Proof.IdealRun.Proj.lean ====
/- The first region of @main on any entry contents: what the projection kernel leaves in its three output
   buffers, its triple, its pipeline data and its body obligation. -/
module

public import proofs.«01_k».proof.Proof.IdealRun.Heads
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

abbrev rX : Rect S256x1024 := Rect.unit (s := S256x1024) ![0, 0] S256x1024.size inb_S256x1024_S256x1024_0_0
abbrev rC : Rect S256x64 := Rect.unit (s := S256x64) ![0, 0] S256x64.size inb_S256x64_S256x64_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- One projection of the loaded rows. -/
def proj0 (x : Vec F S256x1024 .f32) (w : Vec F S1024x1024 .f32) (b : Vec F S1x1024 .f32) : FVec F S256x1024 .f32 :=
  projRows (shapeCast S256x1024 (View.ld x rX) shapeCasts_S256x1024_S256x1024) (View.ld w rW)
    (shapeCast S1x1024 (View.ld b rB) shapeCasts_S1x1024_S1x1024)

/-- Output window 9 after the body: the turned query rows. -/
def out9 (x0 : Vec F S256x1024 .f32) (x1 : Vec F S1024x1024 .f32) (x2 : Vec F S1024x1024 .f32) (x3 : Vec F S1024x1024 .f32) (x4 : Vec F S1x1024 .f32) (x5 : Vec F S1x1024 .f32) (x6 : Vec F S1x1024 .f32) (x7 : Vec F S256x64 .f32) (x8 : Vec F S256x64 .f32) : Vec F S256x1024 .f32 :=
  View.canon [⟨rX, ropeRows (proj0 x0 x1 x4) (shapeCast S256x64 (View.ld x7 rC) shapeCasts_S256x64_S256x64)
    (shapeCast S256x64 (View.ld x8 rC) shapeCasts_S256x64_S256x64)⟩]

/-- Output window 10 after the body: the turned key rows. -/
def out10 (x0 : Vec F S256x1024 .f32) (x1 : Vec F S1024x1024 .f32) (x2 : Vec F S1024x1024 .f32) (x3 : Vec F S1024x1024 .f32) (x4 : Vec F S1x1024 .f32) (x5 : Vec F S1x1024 .f32) (x6 : Vec F S1x1024 .f32) (x7 : Vec F S256x64 .f32) (x8 : Vec F S256x64 .f32) : Vec F S256x1024 .f32 :=
  View.canon [⟨rX, ropeRows (proj0 x0 x2 x5) (shapeCast S256x64 (View.ld x7 rC) shapeCasts_S256x64_S256x64)
    (shapeCast S256x64 (View.ld x8 rC) shapeCasts_S256x64_S256x64)⟩]

/-- Output window 11 after the body: the value rows. -/
def out11 (x0 : Vec F S256x1024 .f32) (x1 : Vec F S1024x1024 .f32) (x2 : Vec F S1024x1024 .f32) (x3 : Vec F S1024x1024 .f32) (x4 : Vec F S1x1024 .f32) (x5 : Vec F S1x1024 .f32) (x6 : Vec F S1x1024 .f32) (x7 : Vec F S256x64 .f32) (x8 : Vec F S256x64 .f32) : Vec F S256x1024 .f32 :=
  View.canon [⟨rX, proj0 x0 x3 x6⟩]

/-- One store of a whole output buffer covers it. -/
theorem coverX (p0 : Vec F S256x1024 .f32) (y : S256x1024.Idx) :
    ∃ pc ∈ ([⟨rX, p0⟩] : List (View.Piece (Elt F) S256x1024 .f32)), y ∈ pc.1.set :=
  View.cover_of_tiled [⟨rX, p0⟩] S256x1024.size (by rfl) y

set_option maxHeartbeats 1000000 in
/-- The projection body's triple: the inputs are left as they were and each output buffer is left at its named value. -/
theorem soundProj (c : Dev nD) (E : Set ℕ) (arg0 : Memref sig .tc .vmem S256x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole)
    (x0 : Vec F S256x1024 .f32) (x1 : Vec F S1024x1024 .f32) (x2 : Vec F S1024x1024 .f32) (x3 : Vec F S1024x1024 .f32) (x4 : Vec F S1x1024 .f32) (x5 : Vec F S1x1024 .f32) (x6 : Vec F S1x1024 .f32) (x7 : Vec F S256x64 .f32) (x8 : Vec F S256x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out9 x0 x1 x2 x3 x4 x5 x6 x7 x8) ∗ owns (c : Thread nD τ) arg10 fullShare (out10 x0 x1 x2 x3 x4 x5 x6 x7 x8) ∗ owns (c : Thread nD τ) arg11 fullShare (out11 x0 x1 x2 x3 x4 x5 x6 x7 x8)) -∗ K ⟨⟩))
      ⊢ wp frame (wpE (defs₀ (F := F)) Variants.none c none) E (cc0_qkv_rope_proj arg0 harg0 arg1 harg1 arg2 harg2 arg3 harg3 arg4 harg4 arg5 harg5 arg6 harg6 arg7 harg7 arg8 harg8 arg9 harg9 arg10 harg10 arg11 harg11) K := by
  simp only [cc0_qkv_rope_proj_eq_skeleton]; unfold cc0_qkv_rope_proj_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (coverX _)).trans ?_
    rfl
  isplitl [H10]
  · iexists _; isplitr
    swap; · iexact H10
    ipureintro
    refine (View.read_writes_eq_canon _ _ _ (coverX _)).trans ?_
    rfl
  iexists _; isplitr
  swap; · iexact H11
  ipureintro
  refine (View.read_writes_eq_canon _ _ _ (coverX _)).trans ?_
  rfl

section Data
-- the buffers' contents when the region is entered
variable (V : Dev nD → Valuation τ sig (Elt F))

/-- Window `w`'s block at a grid point, read off its array at the region's entry. -/
def blk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The first region's data: inputs keep their blocks, outputs take their named values. -/
def datP (c : Dev nD) : Dat τ (Elt F) Unit ℕ (UR sig nD τ) ℕ cfg0 c where
  A w := V c (Proc.devRef .tc (Pipeline.arrRef spec0 w))
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => blk0 V c 8 t
    | ⟨9, _⟩ => out9 (blk0 V c 0 t) (blk0 V c 1 t) (blk0 V c 2 t) (blk0 V c 3 t) (blk0 V c 4 t) (blk0 V c 5 t) (blk0 V c 6 t) (blk0 V c 7 t) (blk0 V c 8 t)
    | ⟨10, _⟩ => out10 (blk0 V c 0 t) (blk0 V c 1 t) (blk0 V c 2 t) (blk0 V c 3 t) (blk0 V c 4 t) (blk0 V c 5 t) (blk0 V c 6 t) (blk0 V c 7 t) (blk0 V c 8 t)
    | ⟨11, _⟩ => out11 (blk0 V c 0 t) (blk0 V c 1 t) (blk0 V c 2 t) (blk0 V c 3 t) (blk0 V c 4 t) (blk0 V c 5 t) (blk0 V c 6 t) (blk0 V c 7 t) (blk0 V c 8 t)
  Φ _ := Pipeline.ΦA spec0 c
  q _ := fullShare
  owed _ := 0

/-- The arrays of the first region at its entry. -/
theorem datP_A (c : Dev nD) (w : Fin cfg0.W) : (datP V c).A w = V c (Proc.devRef .tc (Pipeline.arrRef spec0 w)) := by
  dsimp only [datP]

/-- Window 0 of the first region holds its block still when a step's body ends. -/
theorem datP_after0 (c : Dev nD) (t : Fin cfg0.N) : (datP V c).after 0 t = blk0 V c 0 t := by dsimp only [datP]
/-- Window 1 of the first region holds its block still when a step's body ends. -/
theorem datP_after1 (c : Dev nD) (t : Fin cfg0.N) : (datP V c).after 1 t = blk0 V c 1 t := by dsimp only [datP]
/-- Window 2 of the first region holds its block still when a step's body ends. -/
theorem datP_after2 (c : Dev nD) (t : Fin cfg0.N) : (datP V c).after 2 t = blk0 V c 2 t := by dsimp only [datP]
/-- Window 3 of the first region holds its block still when a step's body ends. -/
theorem datP_after3 (c : Dev nD) (t : Fin cfg0.N) : (datP V c).after 3 t = blk0 V c 3 t := by dsimp only [datP]
/-- Window 4 of the first region holds its block still when a step's body ends. -/
theorem datP_after4 (c : Dev nD) (t : Fin cfg0.N) : (datP V c).after 4 t = blk0 V c 4 t := by dsimp only [datP]
/-- Window 5 of the first region holds its block still when a step's body ends. -/
theorem datP_after5 (c : Dev nD) (t : Fin cfg0.N) : (datP V c).after 5 t = blk0 V c 5 t := by dsimp only [datP]
/-- Window 6 of the first region holds its block still when a step's body ends. -/
theorem datP_after6 (c : Dev nD) (t : Fin cfg0.N) : (datP V c).after 6 t = blk0 V c 6 t := by dsimp only [datP]
/-- Window 7 of the first region holds its block still when a step's body ends. -/
theorem datP_after7 (c : Dev nD) (t : Fin cfg0.N) : (datP V c).after 7 t = blk0 V c 7 t := by dsimp only [datP]
/-- Window 8 of the first region holds its block still when a step's body ends. -/
theorem datP_after8 (c : Dev nD) (t : Fin cfg0.N) : (datP V c).after 8 t = blk0 V c 8 t := by dsimp only [datP]
/-- Window 9 of the first region holds the body's output when a step's body ends. -/
theorem datP_after9 (c : Dev nD) (t : Fin cfg0.N) : (datP V c).after 9 t = out9 (blk0 V c 0 t) (blk0 V c 1 t) (blk0 V c 2 t) (blk0 V c 3 t) (blk0 V c 4 t) (blk0 V c 5 t) (blk0 V c 6 t) (blk0 V c 7 t) (blk0 V c 8 t) := by dsimp only [datP]
/-- Window 10 of the first region holds the body's output when a step's body ends. -/
theorem datP_after10 (c : Dev nD) (t : Fin cfg0.N) : (datP V c).after 10 t = out10 (blk0 V c 0 t) (blk0 V c 1 t) (blk0 V c 2 t) (blk0 V c 3 t) (blk0 V c 4 t) (blk0 V c 5 t) (blk0 V c 6 t) (blk0 V c 7 t) (blk0 V c 8 t) := by dsimp only [datP]
/-- Window 11 of the first region holds the body's output when a step's body ends. -/
theorem datP_after11 (c : Dev nD) (t : Fin cfg0.N) : (datP V c).after 11 t = out11 (blk0 V c 0 t) (blk0 V c 1 t) (blk0 V c 2 t) (blk0 V c 3 t) (blk0 V c 4 t) (blk0 V c 5 t) (blk0 V c 6 t) (blk0 V c 7 t) (blk0 V c 8 t) := by dsimp only [datP]

/-- Window 0 of the first region holds its block when a step's body starts. -/
theorem datP_before0 (c : Dev nD) (t : Fin cfg0.N) (d) : (datP V c).before 0 t d = blk0 V c 0 t :=
  ((datP V c).before_in_eq_fetched 0 rfl (fun _ => rfl) (fun _ _ _ => rfl)
    (fun t => by rw [datP_after0]; unfold Dat.blockOf blk0; rw [datP_A]; try rfl) t d).trans
    (by unfold Dat.fetched Dat.blockOf blk0; rw [datP_A]; try rfl)
/-- Window 1 of the first region holds its block when a step's body starts. -/
theorem datP_before1 (c : Dev nD) (t : Fin cfg0.N) (d) : (datP V c).before 1 t d = blk0 V c 1 t :=
  ((datP V c).before_in_eq_fetched 1 rfl (fun _ => rfl) (fun _ _ _ => rfl)
    (fun t => by rw [datP_after1]; unfold Dat.blockOf blk0; rw [datP_A]; try rfl) t d).trans
    (by unfold Dat.fetched Dat.blockOf blk0; rw [datP_A]; try rfl)
/-- Window 2 of the first region holds its block when a step's body starts. -/
theorem datP_before2 (c : Dev nD) (t : Fin cfg0.N) (d) : (datP V c).before 2 t d = blk0 V c 2 t :=
  ((datP V c).before_in_eq_fetched 2 rfl (fun _ => rfl) (fun _ _ _ => rfl)
    (fun t => by rw [datP_after2]; unfold Dat.blockOf blk0; rw [datP_A]; try rfl) t d).trans
    (by unfold Dat.fetched Dat.blockOf blk0; rw [datP_A]; try rfl)
/-- Window 3 of the first region holds its block when a step's body starts. -/
theorem datP_before3 (c : Dev nD) (t : Fin cfg0.N) (d) : (datP V c).before 3 t d = blk0 V c 3 t :=
  ((datP V c).before_in_eq_fetched 3 rfl (fun _ => rfl) (fun _ _ _ => rfl)
    (fun t => by rw [datP_after3]; unfold Dat.blockOf blk0; rw [datP_A]; try rfl) t d).trans
    (by unfold Dat.fetched Dat.blockOf blk0; rw [datP_A]; try rfl)
/-- Window 4 of the first region holds its block when a step's body starts. -/
theorem datP_before4 (c : Dev nD) (t : Fin cfg0.N) (d) : (datP V c).before 4 t d = blk0 V c 4 t :=
  ((datP V c).before_in_eq_fetched 4 rfl (fun _ => rfl) (fun _ _ _ => rfl)
    (fun t => by rw [datP_after4]; unfold Dat.blockOf blk0; rw [datP_A]; try rfl) t d).trans
    (by unfold Dat.fetched Dat.blockOf blk0; rw [datP_A]; try rfl)
/-- Window 5 of the first region holds its block when a step's body starts. -/
theorem datP_before5 (c : Dev nD) (t : Fin cfg0.N) (d) : (datP V c).before 5 t d = blk0 V c 5 t :=
  ((datP V c).before_in_eq_fetched 5 rfl (fun _ => rfl) (fun _ _ _ => rfl)
    (fun t => by rw [datP_after5]; unfold Dat.blockOf blk0; rw [datP_A]; try rfl) t d).trans
    (by unfold Dat.fetched Dat.blockOf blk0; rw [datP_A]; try rfl)
/-- Window 6 of the first region holds its block when a step's body starts. -/
theorem datP_before6 (c : Dev nD) (t : Fin cfg0.N) (d) : (datP V c).before 6 t d = blk0 V c 6 t :=
  ((datP V c).before_in_eq_fetched 6 rfl (fun _ => rfl) (fun _ _ _ => rfl)
    (fun t => by rw [datP_after6]; unfold Dat.blockOf blk0; rw [datP_A]; try rfl) t d).trans
    (by unfold Dat.fetched Dat.blockOf blk0; rw [datP_A]; try rfl)
/-- Window 7 of the first region holds its block when a step's body starts. -/
theorem datP_before7 (c : Dev nD) (t : Fin cfg0.N) (d) : (datP V c).before 7 t d = blk0 V c 7 t :=
  ((datP V c).before_in_eq_fetched 7 rfl (fun _ => rfl) (fun _ _ _ => rfl)
    (fun t => by rw [datP_after7]; unfold Dat.blockOf blk0; rw [datP_A]; try rfl) t d).trans
    (by unfold Dat.fetched Dat.blockOf blk0; rw [datP_A]; try rfl)
/-- Window 8 of the first region holds its block when a step's body starts. -/
theorem datP_before8 (c : Dev nD) (t : Fin cfg0.N) (d) : (datP V c).before 8 t d = blk0 V c 8 t :=
  ((datP V c).before_in_eq_fetched 8 rfl (fun _ => rfl) (fun _ _ _ => rfl)
    (fun t => by rw [datP_after8]; unfold Dat.blockOf blk0; rw [datP_A]; try rfl) t d).trans
    (by unfold Dat.fetched Dat.blockOf blk0; rw [datP_A]; try rfl)

/-- What the body is handed at a grid point. -/
def preP (c : Dev nD) (t : Fin cfg0.N) : sProp 𝕄 :=
  iprop((datP V c).Φ t.castSucc ∗ (datP V c).owesAt () t.castSucc
    ∗ (∃ d, owns (c : Thread nD τ) (st0_0 t) fullShare ((datP V c).before 0 t d))
    ∗ (∃ d, owns (c : Thread nD τ) (st0_1 t) fullShare ((datP V c).before 1 t d))
    ∗ (∃ d, owns (c : Thread nD τ) (st0_2 t) fullShare ((datP V c).before 2 t d))
    ∗ (∃ d, owns (c : Thread nD τ) (st0_3 t) fullShare ((datP V c).before 3 t d))
    ∗ (∃ d, owns (c : Thread nD τ) (st0_4 t) fullShare ((datP V c).before 4 t d))
    ∗ (∃ d, owns (c : Thread nD τ) (st0_5 t) fullShare ((datP V c).before 5 t d))
    ∗ (∃ d, owns (c : Thread nD τ) (st0_6 t) fullShare ((datP V c).before 6 t d))
    ∗ (∃ d, owns (c : Thread nD τ) (st0_7 t) fullShare ((datP V c).before 7 t d))
    ∗ (∃ d, owns (c : Thread nD τ) (st0_8 t) fullShare ((datP V c).before 8 t d))
    ∗ (∃ d, owns (c : Thread nD τ) (st0_9 t) fullShare ((datP V c).before 9 t d))
    ∗ (∃ d, owns (c : Thread nD τ) (st0_10 t) fullShare ((datP V c).before 10 t d))
    ∗ (∃ d, owns (c : Thread nD τ) (st0_11 t) fullShare ((datP V c).before 11 t d)))

/-- What the body hands back. -/
def postP (c : Dev nD) (t : Fin cfg0.N) : sProp 𝕄 :=
  iprop((datP V c).Φ t.succ ∗ (datP V c).owesAt () t.succ
    ∗ owns (c : Thread nD τ) (st0_0 t) fullShare ((datP V c).after 0 t)
    ∗ owns (c : Thread nD τ) (st0_1 t) fullShare ((datP V c).after 1 t)
    ∗ owns (c : Thread nD τ) (st0_2 t) fullShare ((datP V c).after 2 t)
    ∗ owns (c : Thread nD τ) (st0_3 t) fullShare ((datP V c).after 3 t)
    ∗ owns (c : Thread nD τ) (st0_4 t) fullShare ((datP V c).after 4 t)
    ∗ owns (c : Thread nD τ) (st0_5 t) fullShare ((datP V c).after 5 t)
    ∗ owns (c : Thread nD τ) (st0_6 t) fullShare ((datP V c).after 6 t)
    ∗ owns (c : Thread nD τ) (st0_7 t) fullShare ((datP V c).after 7 t)
    ∗ owns (c : Thread nD τ) (st0_8 t) fullShare ((datP V c).after 8 t)
    ∗ owns (c : Thread nD τ) (st0_9 t) fullShare ((datP V c).after 9 t)
    ∗ owns (c : Thread nD τ) (st0_10 t) fullShare ((datP V c).after 10 t)
    ∗ owns (c : Thread nD τ) (st0_11 t) fullShare ((datP V c).after 11 t))

/-- The body at a grid point runs from what it is handed to what it hands back. -/
theorem bodyP (c : Dev nD) (t : Fin cfg0.N) :
    preP V c t ⊢ wp frame (wpE (defs₀ (F := F)) Variants.none c none) Set.univ (bodyAt0 t) (fun _ => postP V c t) := by
  unfold preP postP bodyAt0
  simp only [datP_before0, datP_before1, datP_before2, datP_before3, datP_before4, datP_before5, datP_before6, datP_before7, datP_before8]
  rw [show (datP V c).Φ t.succ = (datP V c).Φ t.castSucc from rfl,
    show (datP V c).owesAt () t.succ = (datP V c).owesAt () t.castSucc from rfl,
    datP_after0, datP_after1, datP_after2, datP_after3, datP_after4, datP_after5, datP_after6, datP_after7, datP_after8, datP_after9, datP_after10, datP_after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (soundProj c Set.univ _ _ _ _ _ _ _ _ _ _ _ _ _ _ _ _ _ _ _ _ _ _ _ _ (blk0 V c 0 t) (blk0 V c 1 t) (blk0 V c 2 t) (blk0 V c 3 t) (blk0 V c 4 t) (blk0 V c 5 t) (blk0 V c 6 t) (blk0 V c 7 t) (blk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The first region's body, as the step runs it. -/
theorem rowP (t : Fin cfg0.N) :
    defs₀ (F := F) .tc cfg0.body (cfg0.bodyArgs t (cfg0.slots t)) = bodyAt0 t := by
  unfold defs₀; rw [Defs.onTc_tc]

/-- The first region's body obligation. -/
theorem obligationP (c : Dev nD) : BodyObligation (datP (F := F) V c) (defs₀ (F := F)) Variants.none () Set.univ := fun t => by
  rw [bigSep_W0, bigSep_W0, rowP]
  exact triple_restated (bodyP V c t) rfl .rfl fun _ => .rfl

end Data

end Cert.KernelIdeal.Run

end
-- ==== Proof.IdealRun.Attn.lean ====
/- The second region of @main on any entry contents: what the attention kernel leaves in its output buffer at a
   grid point, its triple, its pipeline data and its body obligation. -/
module

public import proofs.«01_k».proof.Proof.IdealRun.Heads
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The table of lengths as the body is handed it: its whole buffer. -/
abbrev tbM : Memref sig .tc .smem S2x16 .i32 := Memref.whole main_v19
abbrev htbM : tbM.IsWhole := Memref.isWhole_whole _
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare} f

abbrev rO : Rect S1x16x1024 := Rect.unit (s := S1x16x1024) ![0, 0, 0] S1x16x1024.size inb_S1x16x1024_S1x16x1024_0_0_0
abbrev rV : Rect S1024x1024 := Rect.unit (s := S1024x1024) ![0, 0] S1024x1024.size inb_S1024x1024_S1024x1024_0_0
abbrev rD : Rect S1x1024 := Rect.unit (s := S1x1024) ![0, 0] S1x1024.size inb_S1x1024_S1x1024_0_0

/-- The past length the table holds for a grid point, and the number of its new rows. -/
def wordA (T : Vec F S2x16 .i32) (i : grid1.Coords) : Elt F .i32 :=
  View.ld T (Rect.unit (s := S2x16) (k1_off1 i) S1x1.size (k1_off1_inb i)) (Shape.Idx.first (numel1_S1x1.symm ▸ Nat.one_pos))
def wordB (T : Vec F S2x16 .i32) (i : grid1.Coords) : Elt F .i32 :=
  View.ld T (Rect.unit (s := S2x16) (k1_off2 i) S1x1.size (k1_off2_inb i)) (Shape.Idx.first (numel1_S1x1.symm ▸ Nat.one_pos))

/-- A load through a memref is the load from what the memref reads. -/
theorem load_eq {sp : Space} {S : Shape} {e : EltTy} (M : Memref sig .tc sp S e) (f : M.view.ref.ty.Contents (Elt F)) (r : Rect S) :
    View.readAt (Elt F) M.view r.toLoadRect f = View.ld (View.read (Elt F) M.view f) r := rfl
/-- The table is read whole. -/
theorem load_tbl (xt : Vec F S2x16 .i32) : View.read (Elt F) tbM.view xt = xt := rfl

/-- A block's one plane as rows. -/
abbrev rows (x : Vec F S1x16x1024 .f32) : FVec F S16x1024 .f32 :=
  shapeCast S16x1024 (View.ld x rO) shapeCasts_S1x16x1024_S16x1024

/-- The output window after the body: the sixteen heads, projected, with the rows past the count at zero. -/
def outA (a b : Elt F .i32) (x0 : Vec F S1x16x1024 .f32) (x1 : Vec F S1x16x1024 .f32) (x2 : Vec F S1x16x1024 .f32) (x3 : Vec F S1x16x64x2048 .f32) (x4 : Vec F S1x16x64x2048 .f32) (x5 : Vec F S1024x1024 .f32) (x6 : Vec F S1x1024 .f32) : Vec F S1x16x1024 .f32 :=
  View.canon [⟨rO, k1_pay1 b (headsOut (rows x0) (rows x1) (rows x2) (k1_pay5 a b) x3 x4)
    (View.ld x5 rV) (constant S16x1024 .f32 0x00000000#32) (View.ld x6 rD)⟩]

/-- The one store of the body covers its output block. -/
theorem coverO (p0 : Vec F S1x16x1024 .f32) (y : S1x16x1024.Idx) :
    ∃ pc ∈ ([⟨rO, p0⟩] : List (View.Piece (Elt F) S1x16x1024 .f32)), y ∈ pc.1.set :=
  View.cover_of_tiled [⟨rO, p0⟩] S1x16x1024.size (by rfl) y

set_option maxHeartbeats 1000000 in
/-- The attention body's triple: inputs and table are left as they were, the output buffer at its named value. -/
theorem soundAttn (c : Dev nD) (i : grid1.Coords) (arg2 : Memref sig .tc .vmem S1x16x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x16x64x2048 .f32) (harg5 : arg5.IsWhole) (arg6 : Memref sig .tc .vmem S1x16x64x2048 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S1x16x1024 .f32) (harg9 : arg9.IsWhole)
    (x0 : Vec F S1x16x1024 .f32) (x1 : Vec F S1x16x1024 .f32) (x2 : Vec F S1x16x1024 .f32) (x3 : Vec F S1x16x64x2048 .f32) (x4 : Vec F S1x16x64x2048 .f32) (x5 : Vec F S1024x1024 .f32) (x6 : Vec F S1x1024 .f32) (xt : Vec F S2x16 .i32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ tbPt c tbM xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outA (wordA xt i) (wordB xt i) x0 x1 x2 x3 x4 x5 x6) ∗ tbPt c tbM xt) -∗ K ⟨⟩))
      ⊢ wp frame (wpE (defs₀ (F := F)) Variants.none c none) E (cc1_ragged_attn i tbM htbM arg2 harg2 arg3 harg3 arg4 harg4 arg5 harg5 arg6 harg6 arg7 harg7 arg8 harg8 arg9 harg9) K := by
  simp only [cc1_ragged_attn_eq_skeleton]; unfold cc1_ragged_attn_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    refine (View.read_writes_eq_canon _ _ _ (coverO _)).trans ?_
    delta soundAttn.sl.r soundAttn.sl.r_1 soundAttn.sl.r_2 soundAttn.sl.r_3 soundAttn.sl.r_4 soundAttn.sl.r_5 soundAttn.sl.r_6 soundAttn.sl.r_7 soundAttn.sl.r_8 soundAttn.sl.r_9 soundAttn.sl.r_10 soundAttn.sl.r_11 soundAttn.sl.r_12 soundAttn.sl.r_13 soundAttn.sl.r_14 soundAttn.sl.r_15 soundAttn.sl.r_16 soundAttn.sl.r_17 soundAttn.sl.r_18 soundAttn.sl.r_19 soundAttn.sl.r_20 soundAttn.sl.r_21 soundAttn.sl.r_22 soundAttn.sl.r_23 soundAttn.sl.r_24 soundAttn.sl.r_25 soundAttn.sl.r_26 soundAttn.sl.r_27 soundAttn.sl.r_28 soundAttn.sl.r_29 soundAttn.sl.r_30 soundAttn.sl.r_31 soundAttn.sl.r_32 soundAttn.sl.r_33 soundAttn.sl.r_34 soundAttn.sl.r_35 soundAttn.sl.r_36 soundAttn.sl.r_37 soundAttn.sl.r_38 soundAttn.sl.r_39 soundAttn.sl.r_40 soundAttn.sl.r_41 soundAttn.sl.r_42 soundAttn.sl.r_43 soundAttn.sl.r_44 soundAttn.sl.r_45 soundAttn.sl.r_46 soundAttn.sl.r_47 soundAttn.sl.r_48
    beta_reduce
    simp only [load_eq, load_tbl, hf0, hf1, hf2, hf3, hf4, hf5, hf6]
    unfold outA wordA wordB rows headsOut
    rfl
  iexact HT

section Data
variable (V : Dev nD → Valuation τ sig (Elt F))

/-- The table's contents at the region's entry (there is one device). -/
def tbl : pre1.Contents (Elt F) := fun j => V (0 : Dev nD) (Proc.devRef .tc (pre1.ref j))
/-- The table's buffer holds the table's contents. -/
theorem tbl_at (c : Dev nD) (j : Fin 1) : V c (Proc.devRef .tc (pre1.ref j)) = tbl V j := by
  obtain rfl : c = 0 := Subsingleton.elim _ _; rfl
/-- No index map reads the table, so any contents are admissible. -/
theorem ok_tbl : ok1 (F := F) (tbl V) := by
  rw [ok1.eq_1]; decide +kernel
abbrev admA : (pcfg1 (F := F)).Adm := ⟨tbl V, ok_tbl V⟩
abbrev cfgA : Pipeline.Cfg sig Λ₀ := cfg1 (admA V)

/-- The table held in full, as the region hands it to the body. -/
theorem tables_eq (c : Dev nD) : (Pipeline.prefHeld pre1 c (fun _ => fullShare) (tbl V) : sProp 𝕄) = iprop(tbPt c tbM (tbl V 0)) := by
  unfold Pipeline.prefHeld
  rw [show (Finset.univ : Finset (Fin 1)) = {(0 : Fin 1)} from by decide, bigSep_singleton]
  rfl

abbrev sA0 (t : Fin (cfgA V).N) : Memref sig .tc .vmem S1x16x1024 .f32 := spec1_0.stage ((cfgA V).slots t 0)
abbrev sA1 (t : Fin (cfgA V).N) : Memref sig .tc .vmem S1x16x1024 .f32 := spec1_1.stage ((cfgA V).slots t 1)
abbrev sA2 (t : Fin (cfgA V).N) : Memref sig .tc .vmem S1x16x1024 .f32 := spec1_2.stage ((cfgA V).slots t 2)
abbrev sA3 (t : Fin (cfgA V).N) : Memref sig .tc .vmem S1x16x64x2048 .f32 := spec1_3.stage ((cfgA V).slots t 3)
abbrev sA4 (t : Fin (cfgA V).N) : Memref sig .tc .vmem S1x16x64x2048 .f32 := spec1_4.stage ((cfgA V).slots t 4)
abbrev sA5 (t : Fin (cfgA V).N) : Memref sig .tc .vmem S1024x1024 .f32 := spec1_5.stage ((cfgA V).slots t 5)
abbrev sA6 (t : Fin (cfgA V).N) : Memref sig .tc .vmem S1x1024 .f32 := spec1_6.stage ((cfgA V).slots t 6)
abbrev sA7 (t : Fin (cfgA V).N) : Memref sig .tc .vmem S1x16x1024 .f32 := spec1_7.stage ((cfgA V).slots t 7)

/-- The body as the pipeline calls it at a grid point. -/
abbrev bodyAtA (t : Fin (cfgA V).N) : Prog (TpuEff nD τ sig (Elt F) Λ₀ .tc) PUnit :=
  cc1_ragged_attn (grid1.coords t) (Memref.whole main_v19) (Memref.isWhole_whole _) (sA0 V t) (hstage1_0 (((cfgA V).slots t 0).cast nbuf1_0)) (sA1 V t) (hstage1_1 (((cfgA V).slots t 1).cast nbuf1_1)) (sA2 V t) (hstage1_2 (((cfgA V).slots t 2).cast nbuf1_2)) (sA3 V t) (hstage1_3 (((cfgA V).slots t 3).cast nbuf1_3)) (sA4 V t) (hstage1_4 (((cfgA V).slots t 4).cast nbuf1_4)) (sA5 V t) (hstage1_5 (((cfgA V).slots t 5).cast nbuf1_5)) (sA6 V t) (hstage1_6 (((cfgA V).slots t 6).cast nbuf1_6)) (sA7 V t) (hstage1_7 (((cfgA V).slots t 7).cast nbuf1_7))

/-- Window `w`'s block at a grid point, read off its array at the region's entry. -/
def blk1 (c : Dev nD) (w : Fin (cfgA V).W) (t : Fin (cfgA V).N) : (((cfgA V).win w).xblock ((cfgA V).grid.coords t)).Idx → Elt F ((cfgA V).win w).elt :=
  (((cfgA V).win w).blk t).view.read (Elt F) (V c (Proc.devRef .tc (Pipeline.arrRef spec1 w)))

/-- The output at a grid point, from the blocks there. -/
def outAt (c : Dev nD) (t : Fin (cfgA V).N) : Vec F S1x16x1024 .f32 :=
  outA (wordA (tbl V 0) (grid1.coords t)) (wordB (tbl V 0) (grid1.coords t)) (blk1 V c 0 t) (blk1 V c 1 t) (blk1 V c 2 t) (blk1 V c 3 t) (blk1 V c 4 t) (blk1 V c 5 t) (blk1 V c 6 t)

/-- The second region's data: inputs keep their blocks, the output takes its named value; the table rides along. -/
def datA (c : Dev nD) : Dat τ (Elt F) Unit ℕ (UR sig nD τ) ℕ (cfgA V) c where
  A w := V c (Proc.devRef .tc (Pipeline.arrRef spec1 w))
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => outAt V c t
  Φ _ := iprop(Pipeline.ΦA spec1 c ∗ Pipeline.prefHeld pre1 c (fun _ => fullShare) (tbl V))
  q _ := fullShare
  owed _ := 0

/-- The arrays of the second region at its entry. -/
theorem datA_A (c : Dev nD) (w : Fin (cfgA V).W) : (datA V c).A w = V c (Proc.devRef .tc (Pipeline.arrRef spec1 w)) := by
  dsimp only [datA]
/-- Window 0 of the second region holds its block still when a step's body ends. -/
theorem datA_after0 (c : Dev nD) (t : Fin (cfgA V).N) : (datA V c).after 0 t = blk1 V c 0 t := by dsimp only [datA]; try rfl
/-- Window 1 of the second region holds its block still when a step's body ends. -/
theorem datA_after1 (c : Dev nD) (t : Fin (cfgA V).N) : (datA V c).after 1 t = blk1 V c 1 t := by dsimp only [datA]; try rfl
/-- Window 2 of the second region holds its block still when a step's body ends. -/
theorem datA_after2 (c : Dev nD) (t : Fin (cfgA V).N) : (datA V c).after 2 t = blk1 V c 2 t := by dsimp only [datA]; try rfl
/-- Window 3 of the second region holds its block still when a step's body ends. -/
theorem datA_after3 (c : Dev nD) (t : Fin (cfgA V).N) : (datA V c).after 3 t = blk1 V c 3 t := by dsimp only [datA]; try rfl
/-- Window 4 of the second region holds its block still when a step's body ends. -/
theorem datA_after4 (c : Dev nD) (t : Fin (cfgA V).N) : (datA V c).after 4 t = blk1 V c 4 t := by dsimp only [datA]; try rfl
/-- Window 5 of the second region holds its block still when a step's body ends. -/
theorem datA_after5 (c : Dev nD) (t : Fin (cfgA V).N) : (datA V c).after 5 t = blk1 V c 5 t := by dsimp only [datA]; try rfl
/-- Window 6 of the second region holds its block still when a step's body ends. -/
theorem datA_after6 (c : Dev nD) (t : Fin (cfgA V).N) : (datA V c).after 6 t = blk1 V c 6 t := by dsimp only [datA]; try rfl
/-- Window 7 of the second region holds the body's output when a step's body ends. -/
theorem datA_after7 (c : Dev nD) (t : Fin (cfgA V).N) : (datA V c).after 7 t = outAt V c t := by dsimp only [datA]; try rfl

/-- Window 0 of the second region holds its block when a step's body starts. -/
theorem datA_before0 (c : Dev nD) (t : Fin (cfgA V).N) (d) : (datA V c).before 0 t d = blk1 V c 0 t :=
  ((datA V c).before_in_eq_fetched 0 rfl (fun _ => rfl) (fun _ _ _ => rfl)
    (fun t => by rw [datA_after0]; unfold Dat.blockOf blk1; rw [datA_A]; try rfl) t d).trans
    (by unfold Dat.fetched Dat.blockOf blk1; rw [datA_A]; try rfl)
/-- Window 1 of the second region holds its block when a step's body starts. -/
theorem datA_before1 (c : Dev nD) (t : Fin (cfgA V).N) (d) : (datA V c).before 1 t d = blk1 V c 1 t :=
  ((datA V c).before_in_eq_fetched 1 rfl (fun _ => rfl) (fun _ _ _ => rfl)
    (fun t => by rw [datA_after1]; unfold Dat.blockOf blk1; rw [datA_A]; try rfl) t d).trans
    (by unfold Dat.fetched Dat.blockOf blk1; rw [datA_A]; try rfl)
/-- Window 2 of the second region holds its block when a step's body starts. -/
theorem datA_before2 (c : Dev nD) (t : Fin (cfgA V).N) (d) : (datA V c).before 2 t d = blk1 V c 2 t :=
  ((datA V c).before_in_eq_fetched 2 rfl (fun _ => rfl) (fun _ _ _ => rfl)
    (fun t => by rw [datA_after2]; unfold Dat.blockOf blk1; rw [datA_A]; try rfl) t d).trans
    (by unfold Dat.fetched Dat.blockOf blk1; rw [datA_A]; try rfl)
/-- Window 3 of the second region holds its block when a step's body starts. -/
theorem datA_before3 (c : Dev nD) (t : Fin (cfgA V).N) (d) : (datA V c).before 3 t d = blk1 V c 3 t :=
  ((datA V c).before_in_eq_fetched 3 rfl (fun _ => rfl) (fun _ _ _ => rfl)
    (fun t => by rw [datA_after3]; unfold Dat.blockOf blk1; rw [datA_A]; try rfl) t d).trans
    (by unfold Dat.fetched Dat.blockOf blk1; rw [datA_A]; try rfl)
/-- Window 4 of the second region holds its block when a step's body starts. -/
theorem datA_before4 (c : Dev nD) (t : Fin (cfgA V).N) (d) : (datA V c).before 4 t d = blk1 V c 4 t :=
  ((datA V c).before_in_eq_fetched 4 rfl (fun _ => rfl) (fun _ _ _ => rfl)
    (fun t => by rw [datA_after4]; unfold Dat.blockOf blk1; rw [datA_A]; try rfl) t d).trans
    (by unfold Dat.fetched Dat.blockOf blk1; rw [datA_A]; try rfl)
/-- Window 5 of the second region holds its block when a step's body starts. -/
theorem datA_before5 (c : Dev nD) (t : Fin (cfgA V).N) (d) : (datA V c).before 5 t d = blk1 V c 5 t :=
  ((datA V c).before_in_eq_fetched 5 rfl (fun _ => rfl) (fun _ _ _ => rfl)
    (fun t => by rw [datA_after5]; unfold Dat.blockOf blk1; rw [datA_A]; try rfl) t d).trans
    (by unfold Dat.fetched Dat.blockOf blk1; rw [datA_A]; try rfl)
/-- Window 6 of the second region holds its block when a step's body starts. -/
theorem datA_before6 (c : Dev nD) (t : Fin (cfgA V).N) (d) : (datA V c).before 6 t d = blk1 V c 6 t :=
  ((datA V c).before_in_eq_fetched 6 rfl (fun _ => rfl) (fun _ _ _ => rfl)
    (fun t => by rw [datA_after6]; unfold Dat.blockOf blk1; rw [datA_A]; try rfl) t d).trans
    (by unfold Dat.fetched Dat.blockOf blk1; rw [datA_A]; try rfl)

/-- What the body is handed at a grid point. -/
def preA (c : Dev nD) (t : Fin (cfgA V).N) : sProp 𝕄 :=
  iprop((datA V c).Φ t.castSucc ∗ (datA V c).owesAt () t.castSucc
    ∗ (∃ d, owns (c : Thread nD τ) (sA0 V t) fullShare ((datA V c).before 0 t d))
    ∗ (∃ d, owns (c : Thread nD τ) (sA1 V t) fullShare ((datA V c).before 1 t d))
    ∗ (∃ d, owns (c : Thread nD τ) (sA2 V t) fullShare ((datA V c).before 2 t d))
    ∗ (∃ d, owns (c : Thread nD τ) (sA3 V t) fullShare ((datA V c).before 3 t d))
    ∗ (∃ d, owns (c : Thread nD τ) (sA4 V t) fullShare ((datA V c).before 4 t d))
    ∗ (∃ d, owns (c : Thread nD τ) (sA5 V t) fullShare ((datA V c).before 5 t d))
    ∗ (∃ d, owns (c : Thread nD τ) (sA6 V t) fullShare ((datA V c).before 6 t d))
    ∗ (∃ d, owns (c : Thread nD τ) (sA7 V t) fullShare ((datA V c).before 7 t d)))

/-- What the body hands back. -/
def postA (c : Dev nD) (t : Fin (cfgA V).N) : sProp 𝕄 :=
  iprop((datA V c).Φ t.succ ∗ (datA V c).owesAt () t.succ
    ∗ owns (c : Thread nD τ) (sA0 V t) fullShare ((datA V c).after 0 t)
    ∗ owns (c : Thread nD τ) (sA1 V t) fullShare ((datA V c).after 1 t)
    ∗ owns (c : Thread nD τ) (sA2 V t) fullShare ((datA V c).after 2 t)
    ∗ owns (c : Thread nD τ) (sA3 V t) fullShare ((datA V c).after 3 t)
    ∗ owns (c : Thread nD τ) (sA4 V t) fullShare ((datA V c).after 4 t)
    ∗ owns (c : Thread nD τ) (sA5 V t) fullShare ((datA V c).after 5 t)
    ∗ owns (c : Thread nD τ) (sA6 V t) fullShare ((datA V c).after 6 t)
    ∗ owns (c : Thread nD τ) (sA7 V t) fullShare ((datA V c).after 7 t))

set_option maxHeartbeats 800000 in
/-- The body at a grid point runs from what it is handed to what it hands back. -/
theorem bodyA (c : Dev nD) (t : Fin (cfgA V).N) :
    preA V c t ⊢ wp frame (wpE (defs₀ (F := F)) Variants.none c none) Set.univ (bodyAtA V t) (fun _ => postA V c t) := by
  unfold preA postA bodyAtA
  simp only [datA_before0, datA_before1, datA_before2, datA_before3, datA_before4, datA_before5, datA_before6]
  rw [show (datA V c).Φ t.succ = (datA V c).Φ t.castSucc from rfl,
    show (datA V c).owesAt () t.succ = (datA V c).owesAt () t.castSucc from rfl,
    datA_after0, datA_after1, datA_after2, datA_after3, datA_after4, datA_after5, datA_after6, datA_after7]
  rw [show (datA V c).Φ t.castSucc = iprop(Pipeline.ΦA spec1 c ∗ Pipeline.prefHeld pre1 c (fun _ => fullShare) (tbl V)) from rfl, tables_eq]
  iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((soundAttn c (grid1.coords t) _ _ _ _ _ _ _ _ _ _ _ _ _ _ _ _ (blk1 V c 0 t) (blk1 V c 1 t) (blk1 V c 2 t) (blk1 V c 3 t) (blk1 V c 4 t) (blk1 V c 5 t) (blk1 V c 6 t) (tbl V 0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HT]; · iexact HT
  iintro ⟨H0, H1, H2, H3, H4, H5, H6, H7, HT⟩
  isplitl [HΦ HT]
  · isplitl [HΦ]
    · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The second region's body, as the step runs it. -/
theorem rowA (t : Fin (cfgA V).N) :
    defs₀ (F := F) .tc (cfgA V).body ((cfgA V).bodyArgs t ((cfgA V).slots t)) = bodyAtA V t := by
  unfold defs₀; rw [Defs.onTc_tc]

/-- The second region's body obligation. -/
theorem obligationA (c : Dev nD) : BodyObligation (datA (F := F) V c) (defs₀ (F := F)) Variants.none () Set.univ := fun t => by
  rw [bigSep_W1, bigSep_W1, rowA V]
  exact triple_restated (bodyA V c t) rfl .rfl fun _ => .rfl

end Data

end Cert.KernelIdeal.Run

end
-- ==== Proof.IdealRun.Run.lean ====
/- The whole of @main: the buffers at every boundary between its four items, its two regions as records over those
   boundaries, and the run. Every buffer outside the scopes ends at the last boundary's contents. -/
module

public import proofs.«01_k».proof.Proof.IdealRun.Proj
public import proofs.«01_k».proof.Proof.IdealRun.Attn
public import proofs.«01_k».proof.Proof.Gen.KernelIdeal.Regions
public import Idealize.ShloMosaic.Lib.Pipeline.RegionArraysS
public import Idealize.ShloMosaic.Lib.Pipeline.RegionArraysTS
public import Idealize.ShloMosaic.Lib.Pipeline.RegionsLoop

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev B0 (c : Dev nD) : Valuation τ sig (Elt F) := fun b => m (c, b)
/-- The buffers when the first region is entered. -/
abbrev B1 (c : Dev nD) : Valuation τ sig (Elt F) := StableHlo.after hostOps0 (B0 m c)
/-- The buffers when the first region is left. -/
def B2 (c : Dev nD) : Valuation τ sig (Elt F) := Pipeline.afterRegion (datP (B1 m) c) (B1 m c)
/-- The buffers when the second region is entered. -/
abbrev B3 (c : Dev nD) : Valuation τ sig (Elt F) := StableHlo.after hostOps1 (B2 m c)
/-- The buffers when the second region is left. -/
def B4 (c : Dev nD) : Valuation τ sig (Elt F) := Pipeline.afterRegion (datA (B3 m) c) (B3 m c)

/-- The second region leaves every buffer but the result as it was. -/
theorem B4_of (c : Dev nD) (r : Ref sig .tc) (h : ∀ w, Pipeline.arrRef spec1 w = r → ((cfgA (B3 m)).win w).isOut = false) :
    B4 m c (Proc.devRef .tc r) = B3 m c (Proc.devRef .tc r) := by
  unfold B4; exact Pipeline.afterRegion_keeps _ _ (launch1 (F := F)).win.arr_inj (datA_A (B3 m) c) r h
/-- The first region leaves every buffer but its three outputs as it was. -/
theorem B2_of (c : Dev nD) (r : Ref sig .tc) (h : ∀ w : Fin cfg0.W, Pipeline.arrRef spec0 w = r → (cfg0.win w).isOut = false) :
    B2 m c (Proc.devRef .tc r) = B1 m c (Proc.devRef .tc r) := by
  unfold B2; exact Pipeline.afterRegion_keeps _ _ (launch0 (F := F)).win.arr_inj (datP_A (B1 m) c) r h
/-- The second line of host operations leaves what it does not write. -/
theorem B3_of (c : Dev nD) (r : Ref sig .tc) (h : r ∉ hostOps1_W) : B3 m c (Proc.devRef .tc r) = B2 m c (Proc.devRef .tc r) :=
  StableHlo.after_of_writes_sub hostOps1 (B2 m c) (hostOps1_writes (F := F)) h
/-- The first line of host operations leaves what it does not write. -/
theorem B1_of (c : Dev nD) (r : Ref sig .tc) (h : r ∉ hostOps0_W) : B1 m c (Proc.devRef .tc r) = B0 m c (Proc.devRef .tc r) :=
  StableHlo.after_of_writes_sub hostOps0 (B0 m c) (hostOps0_writes (F := F)) h

/-- The arguments of @main. -/
abbrev argRefs : List (Ref sig .tc) := [main_arg0, main_arg1, main_arg2, main_arg3, main_arg4, main_arg5, main_arg6, main_arg7, main_arg8, main_arg9, main_arg10, main_arg11, main_arg12, main_arg13, main_arg14, main_arg15]
/-- No argument is an output of the first region. -/
theorem args_in0 : ∀ a ∈ argRefs, ∀ w : Fin cfg0.W, Pipeline.arrRef spec0 w = a → (cfg0.win w).isOut = false :=
  ListAll.forall_mem_of_all_decide (by decide +kernel)
/-- Whether a window of the second region is an output does not depend on the table. -/
theorem out_flag (V : Dev nD → Valuation τ sig (Elt F)) (w : Fin 8) : ((cfgA V).win w).isOut = (spec1 w).isOut := rfl
/-- No argument is an output of the second region. -/
theorem args_in1' : ∀ a ∈ argRefs, ∀ w : Fin 8, Pipeline.arrRef spec1 w = a → (spec1 w).isOut = false :=
  ListAll.forall_mem_of_all_decide (by decide +kernel)
/-- The first line of host operations writes no argument. -/
theorem args_host0 : ∀ a ∈ argRefs, a ∉ hostOps0_W := ListAll.forall_mem_of_all_decide (by decide +kernel)
/-- The second line of host operations writes no argument. -/
theorem args_host1 : ∀ a ∈ argRefs, a ∉ hostOps1_W := ListAll.forall_mem_of_all_decide (by decide +kernel)
/-- Every argument before the first region is as it was launched. -/
theorem B1_args (c : Dev nD) (a : Ref sig .tc) (ha : a ∈ argRefs) : B1 m c (Proc.devRef .tc a) = m ((c : Thread nD τ).loc a) :=
  B1_of m c a (args_host0 a ha)
/-- Every argument after the first region is as it was launched. -/
theorem B2_args (c : Dev nD) (a : Ref sig .tc) (ha : a ∈ argRefs) : B2 m c (Proc.devRef .tc a) = m ((c : Thread nD τ).loc a) :=
  (B2_of m c a (args_in0 a ha)).trans (B1_args m c a ha)
/-- Every argument before the second region is as it was launched. -/
theorem B3_args (c : Dev nD) (a : Ref sig .tc) (ha : a ∈ argRefs) : B3 m c (Proc.devRef .tc a) = m ((c : Thread nD τ).loc a) :=
  (B3_of m c a (args_host1 a ha)).trans (B2_args m c a ha)
/-- Every argument at the end is as it was launched. -/
theorem B4_args (c : Dev nD) (a : Ref sig .tc) (ha : a ∈ argRefs) : B4 m c (Proc.devRef .tc a) = m ((c : Thread nD τ).loc a) :=
  (B4_of m c a (args_in1' a ha)).trans (B3_args m c a ha)

/-- The table contents each pipeline runs at. -/
def adms : (p : Fin 2) → (pcfgs (F := F) p).Adm
  | ⟨0, _⟩ => cfg0.toPCfg_adm
  | ⟨1, _⟩ => admA (B3 m)
/-- Each pipeline's data at its region's entry contents. -/
def pdats : (p : Fin 2) → (c : Dev nD) → Dat τ (Elt F) Unit ℕ (UR sig nD τ) ℕ (Pipeline.pin (pcfgs (F := F)) (adms m) p) c
  | ⟨0, _⟩ => fun c => datP (B1 m) c
  | ⟨1, _⟩ => fun c => datA (B3 m) c
abbrev 𝒱₀ : Variants := Variants.none
/-- Every TensorCore semaphore carries the one level; nobody owes anything. -/
def L : GSem nD τ sig → Finset Unit := fun g => if g.1.2 = .tc then {()} else ∅
abbrev lv : GSem nD τ sig → Unit → ℕ := fun _ _ => 0
abbrev D0 : Dev nD → CellTallies nD τ sig Unit := fun _ => 0
/-- Off the TensorCore no semaphore carries a level. -/
theorem hL (g : GSem nD τ sig) (h : g.1.2 ≠ .tc) : L g = ∅ := if_neg h

/-- The generator register at some state. -/
abbrev reg (c : Dev nD) : sProp 𝕄 := iprop(∃ r, prngReg c r)
abbrev Em (c : Dev nD) : sProp 𝕄 := iprop(emp)
/-- What rides beside the buffers: nothing owed, and the register. -/
abbrev ride (c : Dev nD) : sProp 𝕄 := iprop((∃ Wd, owes (c : Thread nD τ) (D0 c) Wd) ∗ reg c ∗ Em c)

/-- Each region's semaphores carry the one level. -/
theorem cut (p : Fin 2) : Pipeline.LevelCut (pcfgs (F := F)) (adms m) () L lv p D0 (fun _ => 0) where
  hι c w s := by unfold L; rw [if_pos rfl]; exact Finset.mem_singleton_self _
  hιb _ _ _ := le_refl _
  hD _ _ _ h := absurd h (lt_irrefl _)

set_option backward.isDefEq.respectTransparency.types false in
/-- The first region between its two boundaries. -/
def regP : Pipeline.RegionSeg (pcfgs (F := F)) (adms m) (pdats m) () defs₀ 𝒱₀ L lv 0 :=
  Pipeline.RegionSeg.ofHeldIn (pcfgs (F := F)) (adms m) (pdats m) () defs₀ 𝒱₀ L lv 0 D0 (Pipeline.ucRefs τ sig) reg reg launch0 rfl
    (fun c => (obligationP (B1 m) c).loose) (fun _ _ => rfl) (fun _ => rfl) (fun c w => (pdats m 0 c).share_full (fun _ => rfl) w)
    (fun c => .rfl) (fun c => .rfl) (fun _ => 0) (cut m 0) Em (B1 m) (fun c w => datP_A (B1 m) c w)

set_option backward.isDefEq.respectTransparency.types false in
/-- The second region between its two boundaries. -/
def regA : Pipeline.RegionSeg (pcfgs (F := F)) (adms m) (pdats m) () defs₀ 𝒱₀ L lv 1 :=
  Pipeline.RegionSeg.ofHeldInT (pcfgs (F := F)) (adms m) (pdats m) () defs₀ 𝒱₀ L lv 1 D0 (Pipeline.ucRefs τ sig) reg reg launch1
    (fun c => (obligationA (B3 m) c).loose) (fun _ _ => rfl) (fun _ => rfl) (fun c w => (pdats m 1 c).share_full (fun _ => rfl) w)
    (fun c => .rfl) (fun c => .rfl) (fun _ => 0) (cut m 1) Em (B3 m) (fun c w => datA_A (B3 m) c w)
    (fun c k => (tbl_at (B3 m) c k).symm)

/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride

/-- @main as its four segments. -/
abbrev segs : List (Pipeline.Seg (pcfgs (F := F)) (adms m) (pdats m) () defs₀ 𝒱₀ L lv) :=
  [ .host (hseg hostOps0 hostOps0_sub hostOps0_fresh (B0 m)), .region (regP m),
    .host (hseg hostOps1 hostOps1_sub hostOps1_fresh (B2 m)), .region (regA m) ]

/-- An unscoped reference is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The first region's arrays are among the buffers held. -/
theorem arrs0 : Pipeline.arrRefs (τ := τ) spec0 ⊆ Pipeline.ucRefs τ sig := by decide +kernel
/-- The second region's arrays are among the buffers held. -/
theorem arrs1 : Pipeline.arrRefs (τ := τ) spec1 ⊆ Pipeline.ucRefs τ sig := by decide +kernel
/-- The second region's table is among the buffers held. -/
theorem tbls1 : Pipeline.tblRefs (τ := τ) pre1 ⊆ Pipeline.ucRefs τ sig := by decide +kernel

abbrev held' (c : Dev nD) (W : Valuation τ sig (Elt F)) : sProp 𝕄 := StableHlo.held (c : Thread nD τ) (Pipeline.ucRefs τ sig) W

set_option backward.isDefEq.respectTransparency.types false in
/-- What is held before the first region is what it asks for. -/
theorem preP_in (c : Dev nD) : iprop(held' c (B1 m c) ∗ ride c) ⊢ (regP m).pre c := by
  unfold regP
  exact Pipeline.RegionSeg.ofHeldIn_pre (a := adms m) (pdats := pdats m) (p := 0) (D := D0) arrs0 (X := reg) (Y := reg) (R := Em) (W := B1 m) c
set_option backward.isDefEq.respectTransparency.types false in
/-- What the first region leaves is what is held after it. -/
theorem postP_out (c : Dev nD) : (regP m).post c ⊢ iprop(held' c (B2 m c) ∗ ride c) := by
  unfold regP B2
  exact Pipeline.RegionSeg.ofHeldIn_post (a := adms m) (pdats := pdats m) (p := 0) (D := D0) arrs0 (X := reg) (Y := reg) (R := Em) (W := B1 m) c
set_option backward.isDefEq.respectTransparency.types false in
/-- What is held before the second region is what it asks for. -/
theorem preA_in (c : Dev nD) : iprop(held' c (B3 m c) ∗ ride c) ⊢ (regA m).pre c := by
  unfold regA
  exact Pipeline.RegionSeg.ofHeldInT_pre (a := adms m) (pdats := pdats m) (p := 1) (D := D0) arrs1 tbls1 (X := reg) (Y := reg) (R := Em) (W := B3 m) c
set_option backward.isDefEq.respectTransparency.types false in
/-- What the second region leaves is what is held after it. -/
theorem postA_out (c : Dev nD) : (regA m).post c ⊢ iprop(held' c (B4 m c) ∗ ride c) := by
  unfold regA B4
  exact Pipeline.RegionSeg.ofHeldInT_post (a := adms m) (pdats := pdats m) (p := 1) (D := D0) arrs1 tbls1 (X := reg) (Y := reg) (R := Em) (W := B3 m) c

/-- The program is its segments in order. -/
theorem main_run (c : Dev nD) : main (F := F) c = Pipeline.Seg.run (segs m) := (main_chain c).trans (by chain_rfl)
/-- Every semaphore belongs to a region. -/
theorem no_unscoped : ∀ sm : SemLoc sig, sm.isScoped .tc = true := by decide

abbrev u0 : UR sig nD τ := initOf (Pipeline.cells (Pipeline.pin (pcfgs (F := F)) (adms m)) (cellOf_inj (adms m))) (Pipeline.launchToks (Pipeline.pin (pcfgs (F := F)) (adms m)) (cellOf_inj (adms m)))

set_option backward.isDefEq.respectTransparency.types false in
/-- The run: from any memory with zero counters @main terminates without fault, every buffer outside the scopes ends
    at the last boundary's contents and every counter at zero. -/
theorem run : θ_run defs (onTc (τ := τ) (main (F := F))) ⟨m, fun _ => 0, ρ⟩ (fun r =>
      (∀ c : Dev nD, ∀ b ∈ Pipeline.ucRefs τ sig, r.2.mem ((c : Thread nD τ).1, b) = B4 m c b) ∧ r.2.sem = fun _ => 0) :=
  Pipeline.θ_run_regions_kit_sems (pcfgs (F := F)) (adms m) (pdats m) () (cellOf_inj (adms m)) emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := hL) (G := fun _ => iprop(emp))
    (u₀ := u0 m)
    (hu₀ := by
      iintro Hu; imodintro
      isplitl [Hu]
      · iapply (show (ownU (u0 m) : sProp 𝕄) ⊢ BI.own (emb₁ (u0 m)) from .rfl)
        iexact Hu
      iapply (show (BI.emp : sProp 𝕄) ⊢ bigSep Finset.univ (fun _ : Dev nD => (BI.emp : sProp 𝕄)) from by rw [BI.bigSep_emp_const])
      iempintro)
    (T₀ := fun c => iprop(held' c (B0 m c) ∗ ride c)) (Tₙ := fun c => held' c (B4 m c))
    (hch := ⟨fun _ => .rfl, preP_in m, postP_out m, preA_in m, fun c => (postA_out m c).trans (by
      iintro ⟨Hh, HO, -⟩
      isplitl [Hh]; · iexact Hh
      iexact HO)⟩)
    (hinit := by
      refine Pipeline.initEach L lv fun c => ?_
      rw [show unscopedBufs c (fun b => m ((c : Thread nD τ).loc b)) = held' c (B0 m c)
        from Pipeline.unscopedBufs_held c (B0 m c)]
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => ∀ b ∈ Pipeline.ucRefs τ sig, s.mem (((c : Thread nD τ)).1, b) = B4 m c b)
    (hfin := fun c s' => by
      iintro ⟨Hh, HSI⟩
      unfold held' StableHlo.held
      imodintro
      iapply (pointsTo_read_all (Pipeline.ucRefs τ sig) (fun b => (((c : Thread nD τ)).1, b)) (B4 m c) s')
      isplitl [Hh] <;> iassumption)
    (hQ := fun s h hz => ⟨h, funext fun g => hz g (.inr (no_unscoped g.2))⟩)

/-- The frame: the arguments end as they were launched and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun _ h => ⟨fun c => ⟨(h.1 c _ (mem_uc main_arg0 (by decide))).trans (B4_args m c main_arg0 (by decide)),
      (h.1 c _ (mem_uc main_arg1 (by decide))).trans (B4_args m c main_arg1 (by decide)),
      (h.1 c _ (mem_uc main_arg2 (by decide))).trans (B4_args m c main_arg2 (by decide)),
      (h.1 c _ (mem_uc main_arg3 (by decide))).trans (B4_args m c main_arg3 (by decide)),
      (h.1 c _ (mem_uc main_arg4 (by decide))).trans (B4_args m c main_arg4 (by decide)),
      (h.1 c _ (mem_uc main_arg5 (by decide))).trans (B4_args m c main_arg5 (by decide)),
      (h.1 c _ (mem_uc main_arg6 (by decide))).trans (B4_args m c main_arg6 (by decide)),
      (h.1 c _ (mem_uc main_arg7 (by decide))).trans (B4_args m c main_arg7 (by decide)),
      (h.1 c _ (mem_uc main_arg8 (by decide))).trans (B4_args m c main_arg8 (by decide)),
      (h.1 c _ (mem_uc main_arg9 (by decide))).trans (B4_args m c main_arg9 (by decide)),
      (h.1 c _ (mem_uc main_arg10 (by decide))).trans (B4_args m c main_arg10 (by decide)),
      (h.1 c _ (mem_uc main_arg11 (by decide))).trans (B4_args m c main_arg11 (by decide)),
      (h.1 c _ (mem_uc main_arg12 (by decide))).trans (B4_args m c main_arg12 (by decide)),
      (h.1 c _ (mem_uc main_arg13 (by decide))).trans (B4_args m c main_arg13 (by decide)),
      (h.1 c _ (mem_uc main_arg14 (by decide))).trans (B4_args m c main_arg14 (by decide)),
      (h.1 c _ (mem_uc main_arg15 (by decide))).trans (B4_args m c main_arg15 (by decide))⟩, h.2⟩) (run m ρ)

end Cert.KernelIdeal.Run

end
-- ==== Proof.Value.Core.lean ====
/- The mathematics of the value claim, over the extended reals and with no program in sight: a softmax whose
   weights are normalized before or after the weighted sum, the order in which the valid keys stand, and the two
   places at which a scale may be multiplied in. -/
module

public import Idealize.ShloMosaic.PureOps.Ideal.Laws

@[expose] public section

noncomputable section

namespace Cert.Value

open Idealize.ShloMosaic

/-- A nonnegative real factor goes into a sum. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.2 hr) (EReal.coe_ne_top r) _ _

/-- A quotient by a positive real is a product with its inverse. -/
theorem div_real (x : EReal) (d : ℝ) (hd : 0 < d) : Ideal.div x (d : EReal) = x * ((d⁻¹ : ℝ) : EReal) := by
  unfold Ideal.div
  rw [if_neg (by exact_mod_cast hd.ne'), EReal.coe_inv]

/-- The exponential of minus infinity is zero. -/
theorem exp_bot : Ideal.exp ⊥ = 0 := rfl

/-- The exponential of a real is a real. -/
theorem exp_real (r : ℝ) : Ideal.exp (r : EReal) = ((Real.exp r : ℝ) : EReal) := rfl

/-- A masked score's weight is zero, whatever the maximum. -/
theorem exp_masked (m : EReal) : Ideal.exp (⊥ - m) = 0 := by
  rw [sub_eq_add_neg, EReal.bot_add, exp_bot]

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weights of a row of scores: the exponentials of the scores below their maximum. -/
def weight {n : ℕ} (s : Fin n → EReal) (j : Fin n) : EReal := Ideal.exp (s j - Finset.univ.fold max ⊥ s)

/-- Where no score is plus infinity and some score is real, the weights sum to a positive real. -/
theorem weight_sum {n : ℕ} (s : Fin n → EReal) (hs : ∀ j, s j ≠ ⊤) (h0 : ∃ j, s j ≠ ⊥) :
    ∃ d : ℝ, 0 < d ∧ ∑ j, weight s j = (d : EReal) := by
  classical
  obtain ⟨j0, h0⟩ := h0
  have hm : Finset.univ.fold max ⊥ s = Finset.univ.sup s := rfl
  obtain ⟨j1, -, h1⟩ := Finset.exists_mem_eq_sup Finset.univ ⟨j0, Finset.mem_univ _⟩ s
  have hle : s j0 ≤ s j1 := h1 ▸ Finset.le_sup (Finset.mem_univ j0)
  have hb1 : s j1 ≠ ⊥ := fun h => h0 (le_bot_iff.1 (h ▸ hle))
  obtain ⟨m, hm1⟩ : ∃ m : ℝ, s j1 = (m : EReal) := ⟨_, (EReal.coe_toReal (hs j1) hb1).symm⟩
  have key : ∀ j, ∃ u : ℝ, 0 ≤ u ∧ weight s j = (u : EReal) ∧ (s j ≠ ⊥ → 0 < u) := by
    intro j
    unfold weight
    rw [hm, h1, hm1]
    by_cases hb : s j = ⊥
    · exact ⟨0, le_rfl, by rw [hb, exp_masked]; rfl, fun h => absurd hb h⟩
    · obtain ⟨r, hr⟩ : ∃ r : ℝ, s j = (r : EReal) := ⟨_, (EReal.coe_toReal (hs j) hb).symm⟩
      refine ⟨Real.exp (r - m), (Real.exp_pos _).le, ?_, fun _ => Real.exp_pos _⟩
      rw [hr, ← EReal.coe_sub, exp_real]
  choose u hu using key
  refine ⟨∑ j, u j, ?_, ?_⟩
  · exact Finset.sum_pos' (fun j _ => (hu j).1) ⟨j0, Finset.mem_univ _, (hu j0).2.2 h0⟩
  · rw [coe_sum]; exact Finset.sum_congr rfl fun j _ => (hu j).2.1

/-- The weighted sum divided at the end is the sum with the weights divided first. -/
theorem softmax_mix {n : ℕ} (s v : Fin n → EReal) (hs : ∀ j, s j ≠ ⊤) (h0 : ∃ j, s j ≠ ⊥) :
    (∑ j, weight s j * v j) * Ideal.div 1 (∑ j, weight s j)
      = ∑ j, Ideal.div (weight s j) (∑ j, weight s j) * v j := by
  obtain ⟨d, hd, hD⟩ := weight_sum s hs h0
  rw [hD, div_real _ d hd, one_mul, sum_mul_real _ _ _ (inv_nonneg.2 hd.le)]
  refine Finset.sum_congr rfl fun j _ => ?_
  rw [div_real _ d hd, mul_assoc, mul_assoc, mul_comm (v j)]

/-- Where the key at place `p` of the compacted row (the `P` past keys, the `C` new keys, the rest) stands in the
    row that holds all 2048 past places and then all 16 new ones. -/
def place (P C : ℕ) (hP : P ≤ 2048) (hC : C ≤ 16) : Fin 2064 ≃ Fin 2064 where
  toFun p := ⟨if p.val < P then p.val else if p.val < P + C then 2048 + (p.val - P)
    else if p.val < 2048 + C then p.val - C else p.val, by have := p.isLt; split_ifs <;> omega⟩
  invFun j := ⟨if j.val < P then j.val else if j.val < 2048 then j.val + C
    else if j.val < 2048 + C then j.val - 2048 + P else j.val, by have := j.isLt; split_ifs <;> omega⟩
  left_inv p := by ext; have := p.isLt; dsimp only; split_ifs <;> omega
  right_inv j := by ext; have := j.isLt; dsimp only; split_ifs <;> omega

/-- Weights do not depend on the order in which the scores stand. -/
theorem weight_perm {n : ℕ} (e : Fin n ≃ Fin n) (s : Fin n → EReal) (p : Fin n) :
    weight (fun p => s (e p)) p = weight s (e p) := by
  unfold weight
  have : Finset.univ.fold max ⊥ (fun p => s (e p)) = Finset.univ.fold max ⊥ s := by
    show Finset.univ.sup (fun p => s (e p)) = Finset.univ.sup s
    apply le_antisymm
    · exact Finset.sup_le fun p _ => Finset.le_sup (f := s) (Finset.mem_univ (e p))
    · refine Finset.sup_le fun j _ => ?_
      have := Finset.le_sup (f := fun p => s (e p)) (Finset.mem_univ (e.symm j))
      simpa using this
  rw [this]

/-- The attention of one query over one row of keys, in both orders: the kernel's row `s` with its values `v`, divided
    at the end, against the compacted row `s'` with its values `v'`, divided first. The two rows hold the same scores
    at corresponding places, and the same values wherever the score is not masked. -/
theorem mix_eq {n : ℕ} (e : Fin n ≃ Fin n) (s v s' v' : Fin n → EReal) (hs : ∀ j, s j ≠ ⊤) (h0 : ∃ j, s j ≠ ⊥)
    (hs' : ∀ p, s' p = s (e p)) (hv : ∀ p, s' p ≠ ⊥ → v' p = v (e p)) :
    (∑ j, weight s j * v j) * Ideal.div 1 (∑ j, weight s j)
      = ∑ p, Ideal.div (weight s' p) (∑ p, weight s' p) * v' p := by
  rw [softmax_mix s v hs h0]
  have hw : ∀ p, weight s' p = weight s (e p) := fun p => by
    rw [show s' = fun p => s (e p) from funext hs']; exact weight_perm e s p
  have hD : ∑ p, weight s' p = ∑ j, weight s j := by
    rw [← Equiv.sum_comp e (weight s)]; exact Finset.sum_congr rfl fun p _ => hw p
  rw [hD, ← Equiv.sum_comp e]
  refine Finset.sum_congr rfl fun p _ => ?_
  rw [hw p]
  by_cases hb : s' p = ⊥
  · have : weight s (e p) = 0 := by rw [← hw p]; unfold weight; rw [hb]; exact exp_masked _
    obtain ⟨d, hd, hD⟩ := weight_sum s hs h0
    rw [this, hD, div_real _ d hd, zero_mul, zero_mul, zero_mul]
  · rw [hv p hb]

/-- A sum over all the key places is the sum over the past ones plus the sum over the new ones. -/
theorem sum_places (f : Fin 2064 → EReal) :
    ∑ j, f j = ∑ j : Fin 2048, f ⟨j.val, by omega⟩ + ∑ i : Fin 16, f ⟨2048 + i.val, by omega⟩ :=
  Fin.sum_univ_add (a := 2048) (b := 16) f

/-- A score scaled on the query's side is the score divided by eight. -/
theorem scale_eq {n : ℕ} (q k : Fin n → EReal) :
    ∑ d, q d * (((1 / 8 : ℝ)) : EReal) * k d = Ideal.div (∑ d, q d * k d) ((8 : ℝ) : EReal) := by
  rw [div_real _ 8 (by norm_num), sum_mul_real _ _ _ (by norm_num)]
  refine Finset.sum_congr rfl fun d _ => ?_
  rw [mul_assoc, mul_comm ((1 / 8 : ℝ) : EReal), ← mul_assoc]
  norm_num

end Cert.Value

end

end
-- ==== Proof.Value.Mix.lean ====
/- One query of one head over the extended reals, as the kernel computes it and as the definition does, and their
   equality. -/
module

public import proofs.«01_k».proof.Proof.Value.Core

@[expose] public section

set_option maxRecDepth 16384

noncomputable section

namespace Cert.Value

open Idealize.ShloMosaic

/-- The kernel's score at a place of its row: all past places first, then the new ones, the masked ones at minus infinity. -/
def kscore (P C : ℕ) (q : Fin 64 → EReal) (kp : Fin 2048 → Fin 64 → EReal) (kn : Fin 16 → Fin 64 → EReal) (j : Fin 2064) : EReal :=
  (if h : j.val < 2048 then ∑ x, q x * (((1 / 8 : ℝ)) : EReal) * kp ⟨j.val, h⟩ x
    else ∑ x, q x * (((1 / 8 : ℝ)) : EReal) * kn ⟨j.val - 2048, by omega⟩ x)
  + (if j.val < P ∨ (2048 ≤ j.val ∧ j.val - 2048 < C) then 0 else ⊥)

/-- The kernel's value at a place of its row. -/
def kval (vp : Fin 2048 → Fin 64 → EReal) (vn : Fin 16 → Fin 64 → EReal) (d : Fin 64) (j : Fin 2064) : EReal :=
  if h : j.val < 2048 then vp ⟨j.val, h⟩ d else vn ⟨j.val - 2048, by omega⟩ d

/-- The kernel's output for a query: the weighted values, divided at the end. -/
def kmix (P C : ℕ) (q : Fin 64 → EReal) (kp vp : Fin 2048 → Fin 64 → EReal) (kn vn : Fin 16 → Fin 64 → EReal) (d : Fin 64) : EReal :=
  (∑ j, weight (kscore P C q kp kn) j * kval vp vn d j) * Ideal.div 1 (∑ j, weight (kscore P C q kp kn) j)

/-- The compacted row at a place: the past rows, then the new rows, then zeros. -/
def rrow (P C : ℕ) (kp : Fin 2048 → Fin 64 → EReal) (kn : Fin 16 → Fin 64 → EReal) (p : Fin 2064) (x : Fin 64) : EReal :=
  if p.val < P then kp ⟨min p.val 2047, by omega⟩ x
  else if p.val < P + C then kn ⟨min (p.val - P) 15, by omega⟩ x else 0

/-- The definition's score at a place of the compacted row. -/
def rscore (P C : ℕ) (q : Fin 64 → EReal) (kp : Fin 2048 → Fin 64 → EReal) (kn : Fin 16 → Fin 64 → EReal) (p : Fin 2064) : EReal :=
  if p.val < P + C then Ideal.div (∑ x, q x * rrow P C kp kn p x) ((8 : ℝ) : EReal) else ⊥

/-- The definition's output for a query: the values weighted by the normalized weights. -/
def rmix (P C : ℕ) (q : Fin 64 → EReal) (kp vp : Fin 2048 → Fin 64 → EReal) (kn vn : Fin 16 → Fin 64 → EReal) (d : Fin 64) : EReal :=
  ∑ p, Ideal.div (weight (rscore P C q kp kn) p) (∑ p, weight (rscore P C q kp kn) p) * rrow P C vp vn p d

/-- A real number among the extended reals. -/
def IsReal (x : EReal) : Prop := ∃ r : ℝ, x = (r : EReal)

/-- A sum of reals is a real. -/
theorem IsReal.add {x y : EReal} (hx : IsReal x) (hy : IsReal y) : IsReal (x + y) := by
  obtain ⟨a, rfl⟩ := hx; obtain ⟨b, rfl⟩ := hy; exact ⟨a + b, (EReal.coe_add a b).symm⟩
/-- A product of reals is a real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩
/-- The negative of a real is a real. -/
theorem IsReal.neg {x : EReal} (hx : IsReal x) : IsReal (-x) := by
  obtain ⟨a, rfl⟩ := hx; exact ⟨-a, (EReal.coe_neg a).symm⟩
/-- A real number is a real. -/
theorem IsReal.coe (r : ℝ) : IsReal (r : EReal) := ⟨r, rfl⟩
/-- A finite sum of reals is a real. -/
theorem IsReal.sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- The two orders of one query's attention give one value. -/
theorem kmix_eq (P C : ℕ) (hP : P ≤ 2048) (hC : C ≤ 16) (hC1 : 1 ≤ C) (q : Fin 64 → EReal) (kp vp : Fin 2048 → Fin 64 → EReal)
    (kn vn : Fin 16 → Fin 64 → EReal) (d : Fin 64) (hq : ∀ x, IsReal (q x)) (hkp : ∀ j x, IsReal (kp j x)) (hkn : ∀ j x, IsReal (kn j x)) :
    kmix P C q kp vp kn vn d = rmix P C q kp vp kn vn d := by
  have hdot : ∀ j : Fin 2064, IsReal (if h : j.val < 2048 then ∑ x, q x * (((1 / 8 : ℝ)) : EReal) * kp ⟨j.val, h⟩ x
      else ∑ x, q x * (((1 / 8 : ℝ)) : EReal) * kn ⟨j.val - 2048, by omega⟩ x) := by
    intro j
    split_ifs
    · exact IsReal.sum _ _ fun x => ((hq x).mul (IsReal.coe _)).mul (hkp _ _)
    · exact IsReal.sum _ _ fun x => ((hq x).mul (IsReal.coe _)).mul (hkn _ _)
  unfold kmix rmix
  refine mix_eq (place P C hP hC) _ _ _ _ (fun j => ?_) ⟨⟨2048, by omega⟩, ?_⟩ (fun p => ?_) (fun p hp => ?_)
  · unfold kscore
    obtain ⟨r, hr⟩ := hdot j
    rw [hr]
    split_ifs
    · rw [add_zero]; exact EReal.coe_ne_top r
    · rw [EReal.add_bot]; exact bot_ne_top
  · unfold kscore
    obtain ⟨r, hr⟩ := hdot ⟨2048, by omega⟩
    rw [hr, if_pos (Or.inr ⟨le_rfl, by show 2048 - 2048 < C; omega⟩), add_zero]
    exact EReal.coe_ne_bot r
  · have hlt := p.isLt
    unfold rscore kscore
    by_cases h1 : p.val < P
    · have hv : (place P C hP hC p).val = p.val := by show (if _ then _ else _) = _; rw [if_pos h1]
      have hv' : place P C hP hC p = ⟨p.val, by omega⟩ := Fin.ext hv
      rw [hv', if_pos (by omega), dif_pos (show p.val < 2048 by omega), if_pos (Or.inl h1), add_zero, scale_eq]
      congr 1
      refine Finset.sum_congr rfl fun x _ => ?_
      unfold rrow
      rw [if_pos h1]
      rw [show (⟨min p.val 2047, by omega⟩ : Fin 2048) = ⟨p.val, by omega⟩ from Fin.ext (Nat.min_eq_left (by omega))]
    · by_cases h2 : p.val < P + C
      · have hv' : place P C hP hC p = ⟨2048 + (p.val - P), by omega⟩ := Fin.ext (by
          show (if _ then _ else if _ then _ else _) = _; rw [if_neg h1, if_pos h2])
        rw [hv', if_pos h2, dif_neg (by show ¬ (2048 + (p.val - P) < 2048); omega),
          if_pos (Or.inr ⟨by show 2048 ≤ 2048 + (p.val - P); omega, by show 2048 + (p.val - P) - 2048 < C; omega⟩), add_zero, scale_eq]
        congr 1
        refine Finset.sum_congr rfl fun x _ => ?_
        unfold rrow
        rw [if_neg h1, if_pos h2]
        rw [show (⟨min (p.val - P) 15, by omega⟩ : Fin 16) = ⟨2048 + (p.val - P) - 2048, by omega⟩ from Fin.ext (by show min (p.val - P) 15 = 2048 + (p.val - P) - 2048; omega)]
      · rw [if_neg h2, if_neg, EReal.add_bot]
        have hv : (place P C hP hC p).val = if p.val < 2048 + C then p.val - C else p.val := by
          show (if _ then _ else if _ then _ else _) = _; rw [if_neg h1, if_neg h2]
        rw [hv]
        split_ifs <;> omega
  · have hlt := p.isLt
    have h2 : p.val < P + C := by
      by_contra h; apply hp; unfold rscore; rw [if_neg h]
    unfold rrow kval
    by_cases h1 : p.val < P
    · have hv' : place P C hP hC p = ⟨p.val, by omega⟩ := Fin.ext (by show (if _ then _ else _) = _; rw [if_pos h1])
      rw [hv', if_pos h1, dif_pos (show p.val < 2048 by omega)]
      rw [show (⟨min p.val 2047, by omega⟩ : Fin 2048) = ⟨p.val, by omega⟩ from Fin.ext (Nat.min_eq_left (by omega))]
    · have hv' : place P C hP hC p = ⟨2048 + (p.val - P), by omega⟩ := Fin.ext (by
          show (if _ then _ else if _ then _ else _) = _; rw [if_neg h1, if_pos h2])
      rw [hv', if_neg h1, if_pos h2, dif_neg (by show ¬ (2048 + (p.val - P) < 2048); omega)]
      rw [show (⟨min (p.val - P) 15, by omega⟩ : Fin 16) = ⟨2048 + (p.val - P) - 2048, by omega⟩ from Fin.ext (by show min (p.val - P) 15 = 2048 + (p.val - P) - 2048; omega)]

/-- The rotary turn of one head's column: the definition's spelling. -/
def turn (y c s : Fin 64 → EReal) (d : Fin 64) : EReal :=
  y d * c d + (if h : d.val < 32 then -(y ⟨32 + d.val, by omega⟩) else y ⟨d.val - 32, by omega⟩) * s d

/-- The rotary turn with the sign moved onto the sines. -/
theorem turn_sine (y c s s' : Fin 64 → EReal) (d : Fin 64) (hs : s' d = if d.val < 32 then -(s d) else s d) :
    y d * c d + (if h : d.val < 32 then y ⟨32 + d.val, by omega⟩ else y ⟨d.val - 32, by omega⟩) * s' d = turn y c s d := by
  unfold turn
  rw [hs]
  split_ifs
  · rw [mul_neg, neg_mul]
  · rfl

/-- A turned column of reals is a real. -/
theorem turn_real (y c s : Fin 64 → EReal) (d : Fin 64) (hy : ∀ d, IsReal (y d)) (hc : ∀ d, IsReal (c d)) (hs : ∀ d, IsReal (s d)) :
    IsReal (turn y c s d) := by
  unfold turn
  refine ((hy d).mul (hc d)).add (IsReal.mul ?_ (hs d))
  split_ifs
  · exact (hy _).neg
  · exact hy _

/-- A row times a weight row, plus a bias. -/
def lin (x w : Fin 1024 → EReal) (b : EReal) : EReal := ∑ i, x i * w i + b

/-- A projection of reals is a real. -/
theorem lin_real (x w : Fin 1024 → EReal) (b : EReal) (hx : ∀ i, IsReal (x i)) (hw : ∀ i, IsReal (w i)) (hb : IsReal b) : IsReal (lin x w b) :=
  (IsReal.sum _ _ fun i => (hx i).mul (hw i)).add hb

end Cert.Value

end

end
-- ==== Proof.Value.Heads.lean ====
/- The kernel's vectors read at an index over the extended reals: a projected row, the rotary turn, one head's scores
   and its mix of the values, the mask row, and the sixteen heads side by side. -/
module

public import proofs.«01_k».proof.Proof.IdealRun.Attn
public import proofs.«01_k».proof.Proof.IdealRun.Proj
public import proofs.«01_k».proof.Proof.Value.Mix
public import Idealize.ShloMosaic.Lib.Pointwise
public import Idealize.ShloMosaic.Lib.Pipeline.ValueKit

@[expose] public section

set_option maxRecDepth 16384

noncomputable section

namespace Cert.KernelIdeal.Run

open Idealize.ShloMosaic Idealize.ShloMosaic.TcCoe Idealize.SL.Sem
open Cert.KernelIdeal.Gen
open Idealize.ShloMosaic.WordCmp (cmpi_slt_ofNat)

/-- Column `d` of head `h`. -/
abbrev hcol (h : Fin 16) (d : Fin 64) : Fin 1024 := ⟨64 * h.val + d.val, by omega⟩

/-- A head's turned columns at an index. -/
theorem ropeCols_at (o : ℕ) (ho : o + 64 ≤ 1024) (hs : S256x1024.Slices ![0, o] S256x64) (y : FVec Ideal S256x1024 .f32) (c s : FVec Ideal S256x64 .f32)
    (r : Fin 256) (d : Fin 64) :
    ropeCols o hs y c s (ix2 r d) = y (ix2 r ⟨o + d.val, by omega⟩) * c (ix2 r d)
      + (if h : d.val < 32 then y (ix2 r ⟨o + (32 + d.val), by omega⟩) else y (ix2 r ⟨o + (d.val - 32), by omega⟩)) * s (ix2 r d) := by
  pointwise [ropeCols]

/-- The turned rows at column `d` of head `h`. -/
theorem ropeRows_at (y : FVec Ideal S256x1024 .f32) (c s : FVec Ideal S256x64 .f32) (r : Fin 256) (h : Fin 16) (d : Fin 64) :
    ropeRows y c s (ix2 r (hcol h d)) = y (ix2 r (hcol h d)) * c (ix2 r d)
      + (if hd : d.val < 32 then y (ix2 r (hcol h ⟨32 + d.val, by omega⟩)) else y (ix2 r (hcol h ⟨d.val - 32, by omega⟩))) * s (ix2 r d) := by
  have hsl : ∀ n : Fin 16, S256x1024.Slices ![0, 64 * n.val] S256x64 := by decide +kernel
  have e := concatenate_ofFn_apply (t := S256x1024) (s₁ := S256x64) 1 (fun n : Fin 16 => ropeCols (64 * n.val) (hsl n) y c s)
    concatenates_S256x64_S256x64_S256x64_S256x64_S256x64_S256x64_S256x64_S256x64_S256x64_S256x64_S256x64_S256x64_S256x64_S256x64_S256x64_S256x64_S256x1024_d1
    rfl 64 rfl (ix2 r (hcol h d)) h (by show (64 * h.val + d.val) / 64 = h.val; omega) (ix2 r d)
    (by show d.val = (64 * h.val + d.val) % 64; omega)
    (fun b hb => by
      match b with
      | ⟨0, _⟩ => rfl
      | ⟨1, _⟩ => exact absurd rfl hb)
  refine Eq.trans ?_ (e.trans (ropeCols_at (64 * h.val) (by omega) (hsl h) y c s r d))
  rfl

/-- A projected row at a column. -/
theorem projRows_at (x : FVec Ideal S256x1024 .f32) (w : FVec Ideal S1024x1024 .f32) (b : FVec Ideal S1x1024 .f32) (r : Fin 256) (e : Fin 1024) :
    projRows x w b (ix2 r e) = ∑ k, x (ix2 r k) * w (ix2 e k) + b (ix2 0 e) := by
  pointwise [projRows]

/-- The pattern of one eighth. -/
theorem ofBits_eighth : Ideal.ofBits FTy.f32 1040187392#32 = (((1 / 8 : ℝ)) : EReal) := by
  simp [Ideal.ofBits, Ideal.ieee]
  rw [← EReal.coe_mul]; congr 1; norm_num

/-- The pattern of minus infinity. -/
theorem ofBits_ninf : Ideal.ofBits FTy.f32 4286578688#32 = ⊥ := by
  simp [Ideal.ofBits, Ideal.ieee]

/-- The pattern of sixty-four. -/
theorem ofBits_64 : Ideal.ofBits FTy.f32 0x42800000#32 = ((64 : ℝ) : EReal) := by
  simp [Ideal.ofBits, Ideal.ieee]
  rw [← EReal.coe_mul]; congr 1; norm_num

/-- The pattern of plus infinity. -/
theorem ofBits_inf : Ideal.ofBits FTy.f32 0x7F800000#32 = ⊤ := by
  simp [Ideal.ofBits, Ideal.ieee]

/-- One head's scores at an index. -/
theorem scores_at (o : ℕ) (ho : o + 64 ≤ 1024) (hs : S16x1024.Slices ![0, o] S16x64) (q k : FVec Ideal S16x1024 .f32) (bias : FVec Ideal S1x2064 .f32)
    (kt : FVec Ideal S1x1x64x2048 .f32) (t : Fin 16) (j : Fin 2064) :
    headScores o hs q k bias kt (ix2 t j) = (if h : j.val < 2048 then ∑ x : Fin 64, q (ix2 t ⟨o + x.val, by omega⟩) * Ideal.ofBits FTy.f32 1040187392#32 * kt (ix4 0 0 x ⟨j.val, h⟩)
      else ∑ x : Fin 64, q (ix2 t ⟨o + x.val, by omega⟩) * Ideal.ofBits FTy.f32 1040187392#32 * k (ix2 ⟨j.val - 2048, by omega⟩ ⟨o + x.val, by omega⟩)) + bias (ix2 0 j) := by
  pointwise [headScores]

/-- One head's output at an index: the weights of its score row against the values, divided by their sum. -/
theorem headOut_at (o : ℕ) (ho : o + 64 ≤ 1024) (hs : S16x1024.Slices ![0, o] S16x64) (q k v : FVec Ideal S16x1024 .f32) (bias : FVec Ideal S1x2064 .f32)
    (kt vt : FVec Ideal S1x1x64x2048 .f32) (t : Fin 16) (d : Fin 64) (s : Fin 2064 → EReal) (hsc : ∀ j, headScores o hs q k bias kt (ix2 t j) = s j) :
    headOut o hs q k v bias kt vt (ix2 t d)
      = (∑ j, Cert.Value.weight s j * (if h : j.val < 2048 then vt (ix4 0 0 d ⟨j.val, h⟩) else v (ix2 ⟨j.val - 2048, by omega⟩ ⟨o + d.val, by omega⟩)))
        * Ideal.div 1 (∑ j, Cert.Value.weight s j) := by
  have hw : ∀ j : Fin 2064, headExp (headScores o hs q k bias kt) (ix2 t j) = Cert.Value.weight s j := by
    intro j
    unfold Cert.Value.weight
    rw [← ofBits_ninf]
    simp only [← hsc]
    generalize headScores o hs q k bias kt = S
    pointwise [headExp, rowMax]
  unfold headOut
  rw [Cert.Value.sum_places]
  simp only [← hw]
  generalize headExp (headScores o hs q k bias kt) = p
  pointwise [headMix, rowSum]

/-- The mask row at a place. -/
theorem bias_at (a b : BitVec 32) (j : Fin 2064) (P C : ℕ) (hP : P ≤ 2048) (hC : C ≤ 16) (ha : a = BitVec.ofNat 32 P) (hb : b = BitVec.ofNat 32 C) :
    k1_pay5 (F := Ideal) a b (ix2 0 j) = if j.val < P ∨ (2048 ≤ j.val ∧ j.val - 2048 < C) then 0 else ⊥ := by
  subst ha hb
  pointwise [k1_pay5]
  have hm : Named.named (F := Ideal) κ (φ := .f32) "mask" 4048155338#32 = (⊥ : EReal) := rfl
  have hj := j.isLt
  rw [hm]
  by_cases h : j.val < 2048
  · rw [dif_pos h, cmpi_slt_ofNat (by omega) (by omega)]
    by_cases h1 : j.val < P
    · simp [h1, Scalar.select]
    · simp [h1, Scalar.select]; omega
  · rw [dif_neg h, cmpi_slt_ofNat (by omega) (by omega)]
    by_cases h1 : j.val - 2048 < C
    · simp [h1, Scalar.select]; omega
    · simp [h1, Scalar.select]; omega

/-- The closing projection at an index: the rows below the count, and zero elsewhere. -/
theorem pay1_at (b : BitVec 32) (f : FVec Ideal S16x1024 .f32) (w : Vec Ideal S1024x1024 .f32) (bo : Vec Ideal S1x1024 .f32)
    (t : Fin 16) (e : Fin 1024) (C : ℕ) (hC : C ≤ 16) (hb : b = BitVec.ofNat 32 C) :
    k1_pay1 (F := Ideal) b f w (constant S16x1024 .f32 0x00000000#32) bo (ix3 0 t e) = if t.val < C then ∑ k, f (ix2 t k) * w (ix2 e k) + bo (ix2 0 e) else 0 := by
  subst hb
  pointwise [k1_pay1]
  have ht := t.isLt
  rw [cmpi_slt_ofNat (by omega) (by omega)]
  by_cases h1 : t.val < C
  · simp [h1, Scalar.select]
  · simp [h1, Scalar.select]

/-- A head's plane of a cache block. -/
theorem plane_eq (h : Fin 16) (hin : ∀ a, (![0, h.val, 0, 0] : Fin 4 → Nat) a + S1x1x64x2048.size a ≤ S1x16x64x2048.size a)
    (x : Vec Ideal S1x16x64x2048 .f32) : plane h.val hin x = fun i => x (ix4 0 h (i 2) (i 3)) := by
  funext i
  refine congrArg x ?_
  funext a
  refine Fin.ext ?_
  match a with
  | ⟨0, _⟩ => show 0 + 1 * (i 0).val = 0; have : (i 0).val < 1 := (i 0).isLt; omega
  | ⟨1, _⟩ => show h.val + 1 * (i 1).val = h.val; have : (i 1).val < 1 := (i 1).isLt; omega
  | ⟨2, _⟩ => show 0 + 1 * (i 2).val = (i 2).val; omega
  | ⟨3, _⟩ => show 0 + 1 * (i 3).val = (i 3).val; omega

/-- The sixteen heads at row `t`, column `d` of head `h`. -/
theorem headsOut_at (a b : BitVec 32) (P C : ℕ) (hP : P ≤ 2048) (hC : C ≤ 16) (ha : a = BitVec.ofNat 32 P) (hb : b = BitVec.ofNat 32 C)
    (q k v : FVec Ideal S16x1024 .f32) (kt vt : Vec Ideal S1x16x64x2048 .f32) (t : Fin 16) (h : Fin 16) (d : Fin 64) :
    headsOut q k v (k1_pay5 a b) kt vt (ix2 t (hcol h d))
      = Cert.Value.kmix P C (fun x => q (ix2 t (hcol h x))) (fun j x => kt (ix4 0 h x j)) (fun j x => vt (ix4 0 h x j))
          (fun i x => k (ix2 i (hcol h x))) (fun i x => v (ix2 i (hcol h x))) d := by
  have hsl : ∀ n : Fin 16, S16x1024.Slices ![0, 64 * n.val] S16x64 := by decide +kernel
  have hin : ∀ n : Fin 16, ∀ a, (![0, n.val, 0, 0] : Fin 4 → Nat) a + S1x1x64x2048.size a ≤ S1x16x64x2048.size a := by decide +kernel
  have e := concatenate_ofFn_apply (t := S16x1024) (s₁ := S16x64) 1
    (fun n : Fin 16 => headOut (64 * n.val) (hsl n) q k v (k1_pay5 a b) (plane n.val (hin n) kt) (plane n.val (hin n) vt))
    concatenates_S16x64_S16x64_S16x64_S16x64_S16x64_S16x64_S16x64_S16x64_S16x64_S16x64_S16x64_S16x64_S16x64_S16x64_S16x64_S16x64_S16x1024_d1
    rfl 64 rfl (ix2 t (hcol h d)) h (by show (64 * h.val + d.val) / 64 = h.val; omega) (ix2 t d)
    (by show d.val = (64 * h.val + d.val) % 64; omega)
    (fun b hb => by
      match b with
      | ⟨0, _⟩ => rfl
      | ⟨1, _⟩ => exact absurd rfl hb)
  have hs : ∀ j, headScores (64 * h.val) (hsl h) q k (k1_pay5 a b) (plane h.val (hin h) kt) (ix2 t j)
      = Cert.Value.kscore P C (fun x => q (ix2 t (hcol h x))) (fun j x => kt (ix4 0 h x j)) (fun i x => k (ix2 i (hcol h x))) j := by
    intro j
    rw [scores_at _ (by omega), bias_at a b j P C hP hC ha hb]
    rw [ofBits_eighth, plane_eq]
    rfl
  have e2 := headOut_at (64 * h.val) (by omega) (hsl h) q k v (k1_pay5 a b) (plane h.val (hin h) kt) (plane h.val (hin h) vt) t d _ hs
  refine Eq.trans ?_ (e.trans (e2.trans ?_))
  · rfl
  · rw [plane_eq h (hin h) vt]; rfl

/-- The attention block at row `t`, column `e`. -/
theorem outA_at (a b : BitVec 32) (P C : ℕ) (hP : P ≤ 2048) (hC : C ≤ 16) (ha : a = BitVec.ofNat 32 P) (hb : b = BitVec.ofNat 32 C)
    (x0 x1 x2 : Vec Ideal S1x16x1024 .f32) (x3 x4 : Vec Ideal S1x16x64x2048 .f32) (x5 : Vec Ideal S1024x1024 .f32) (x6 : Vec Ideal S1x1024 .f32)
    (t : Fin 16) (e : Fin 1024) :
    outA a b x0 x1 x2 x3 x4 x5 x6 (ix3 0 t e) = if t.val < C then
      ∑ k, headsOut (rows x0) (rows x1) (rows x2) (k1_pay5 a b) x3 x4 (ix2 t k) * x5 (ix2 e k) + x6 (ix2 0 e) else 0 := by
  unfold outA
  frame_out
  rw [pay1_at _ _ _ _ t e C hC hb]

/-- A load of a whole block of two axes is the block. -/
theorem ld_whole2 {n k : ℕ} {et : EltTy} (x : Vec Ideal ⟨2, ![n, k]⟩ et) (h : ∀ a, (![0, 0] : Fin 2 → Nat) a + (![n, k] : Fin 2 → Nat) a ≤ (![n, k] : Fin 2 → Nat) a) :
    View.ld x (Rect.unit (s := ⟨2, ![n, k]⟩) ![0, 0] ![n, k] h) = x :=
  View.ld_unit_zero (by funext a; match a with | ⟨0, _⟩ => rfl | ⟨1, _⟩ => rfl) _ _

/-- A block's rows at an index. -/
theorem rows_at (x : Vec Ideal S1x16x1024 .f32) (t : Fin 16) (e : Fin 1024) : rows x (ix2 t e) = x (ix3 0 t e) := by
  have h : View.ld x rO = x := View.ld_unit_zero (by funext a; match a with | ⟨0, _⟩ => rfl | ⟨1, _⟩ => rfl | ⟨2, _⟩ => rfl) _ _
  show shapeCast S16x1024 (View.ld x rO) shapeCasts_S1x16x1024_S16x1024 (ix2 t e) = _
  rw [h]
  pointwise

/-- A projected row of the stacked rows. -/
theorem proj0_at (x : Vec Ideal S256x1024 .f32) (w : Vec Ideal S1024x1024 .f32) (b : Vec Ideal S1x1024 .f32) (r : Fin 256) (e : Fin 1024) :
    proj0 x w b (ix2 r e) = Cert.Value.lin (fun k => x (ix2 r k)) (fun k => w (ix2 e k)) (b (ix2 0 e)) := by
  unfold proj0
  rw [show View.ld x rX = x from ld_whole2 x _, show View.ld w rW = w from ld_whole2 w _, show View.ld b rB = b from ld_whole2 b _]
  unfold Cert.Value.lin
  pointwise [projRows]

/-- The turned query rows at an index. -/
theorem out9_at (x0 : Vec Ideal S256x1024 .f32) (x1 x2 x3 : Vec Ideal S1024x1024 .f32) (x4 x5 x6 : Vec Ideal S1x1024 .f32) (x7 x8 : Vec Ideal S256x64 .f32)
    (r : Fin 256) (h : Fin 16) (d : Fin 64) :
    out9 x0 x1 x2 x3 x4 x5 x6 x7 x8 (ix2 r (hcol h d)) = proj0 x0 x1 x4 (ix2 r (hcol h d)) * x7 (ix2 r d)
      + (if hd : d.val < 32 then proj0 x0 x1 x4 (ix2 r (hcol h ⟨32 + d.val, by omega⟩)) else proj0 x0 x1 x4 (ix2 r (hcol h ⟨d.val - 32, by omega⟩))) * x8 (ix2 r d) := by
  unfold out9
  rw [show View.ld x7 rC = x7 from ld_whole2 x7 _, show View.ld x8 rC = x8 from ld_whole2 x8 _]
  generalize proj0 x0 x1 x4 = y
  frame_out
  rw [ropeRows_at]
  pointwise

/-- The turned key rows at an index. -/
theorem out10_at (x0 : Vec Ideal S256x1024 .f32) (x1 x2 x3 : Vec Ideal S1024x1024 .f32) (x4 x5 x6 : Vec Ideal S1x1024 .f32) (x7 x8 : Vec Ideal S256x64 .f32)
    (r : Fin 256) (h : Fin 16) (d : Fin 64) :
    out10 x0 x1 x2 x3 x4 x5 x6 x7 x8 (ix2 r (hcol h d)) = proj0 x0 x2 x5 (ix2 r (hcol h d)) * x7 (ix2 r d)
      + (if hd : d.val < 32 then proj0 x0 x2 x5 (ix2 r (hcol h ⟨32 + d.val, by omega⟩)) else proj0 x0 x2 x5 (ix2 r (hcol h ⟨d.val - 32, by omega⟩))) * x8 (ix2 r d) := by
  unfold out10
  rw [show View.ld x7 rC = x7 from ld_whole2 x7 _, show View.ld x8 rC = x8 from ld_whole2 x8 _]
  generalize proj0 x0 x2 x5 = y
  frame_out
  rw [ropeRows_at]
  pointwise

/-- The value rows are the projection. -/
theorem out11_eq (x0 : Vec Ideal S256x1024 .f32) (x1 x2 x3 : Vec Ideal S1024x1024 .f32) (x4 x5 x6 : Vec Ideal S1x1024 .f32) (x7 x8 : Vec Ideal S256x64 .f32) :
    out11 x0 x1 x2 x3 x4 x5 x6 x7 x8 = proj0 x0 x3 x6 := by
  unfold out11
  generalize proj0 x0 x3 x6 = y
  frame_out

end Cert.KernelIdeal.Run

end

end
-- ==== Proof.Value.Host.lean ====
/- The kernel's buffers at an index over the extended reals: the host operations before each region, the arrays the
   regions leave, and the result as a function of the arguments. -/
module

public import proofs.«01_k».proof.Proof.IdealRun.Run
public import proofs.«01_k».proof.Proof.Value.Heads
public import Idealize.ShloMosaic.Lib.StableHlo.ReadAt

@[expose] public section

set_option maxRecDepth 16384

noncomputable section

namespace Cert.KernelIdeal.Run

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Argument 0 at launch. -/
abbrev A0 (c : Dev nD) : FVec Ideal S16x16x1024 .f32 := m ((c : Thread nD τ).loc main_arg0)
/-- Argument 1 at launch. -/
abbrev A1 (c : Dev nD) : FVec Ideal S1x1x16x64 .f32 := m ((c : Thread nD τ).loc main_arg1)
/-- Argument 2 at launch. -/
abbrev A2 (c : Dev nD) : FVec Ideal S1x1x16x64 .f32 := m ((c : Thread nD τ).loc main_arg2)
/-- Argument 3 at launch. -/
abbrev A3 (c : Dev nD) : FVec Ideal S16x16x2048x64 .f32 := m ((c : Thread nD τ).loc main_arg3)
/-- Argument 4 at launch. -/
abbrev A4 (c : Dev nD) : FVec Ideal S16x16x2048x64 .f32 := m ((c : Thread nD τ).loc main_arg4)
/-- Argument 5 at launch. -/
abbrev A5 (c : Dev nD) : FVec Ideal S1024x1024 .f32 := m ((c : Thread nD τ).loc main_arg5)
/-- Argument 6 at launch. -/
abbrev A6 (c : Dev nD) : FVec Ideal S1024 .f32 := m ((c : Thread nD τ).loc main_arg6)
/-- Argument 7 at launch. -/
abbrev A7 (c : Dev nD) : FVec Ideal S1024x1024 .f32 := m ((c : Thread nD τ).loc main_arg7)
/-- Argument 8 at launch. -/
abbrev A8 (c : Dev nD) : FVec Ideal S1024 .f32 := m ((c : Thread nD τ).loc main_arg8)
/-- Argument 9 at launch. -/
abbrev A9 (c : Dev nD) : FVec Ideal S1024x1024 .f32 := m ((c : Thread nD τ).loc main_arg9)
/-- Argument 10 at launch. -/
abbrev A10 (c : Dev nD) : FVec Ideal S1024 .f32 := m ((c : Thread nD τ).loc main_arg10)
/-- Argument 11 at launch. -/
abbrev A11 (c : Dev nD) : FVec Ideal S1024x1024 .f32 := m ((c : Thread nD τ).loc main_arg11)
/-- Argument 12 at launch. -/
abbrev A12 (c : Dev nD) : FVec Ideal S1024 .f32 := m ((c : Thread nD τ).loc main_arg12)
/-- Argument 13 at launch. -/
abbrev A13 (c : Dev nD) : IVec S16 32 := m ((c : Thread nD τ).loc main_arg13)
/-- Argument 14 at launch. -/
abbrev A14 (c : Dev nD) : IVec S16 32 := m ((c : Thread nD τ).loc main_arg14)
/-- Argument 15 at launch. -/
abbrev A15 (c : Dev nD) : IVec S16x16 1 := m ((c : Thread nD τ).loc main_arg15)

/-- Row `t` of batch element `b` among the stacked rows. -/
abbrev row (b t : Fin 16) : Fin 256 := ⟨b.val * 16 + t.val, by omega⟩

/-- The batch of a row of the flattened input. -/
theorem row_div (b t : Fin 16) : (b.val * 16 + t.val) / 16 = b.val := by omega
/-- The place of a row of the flattened input in its batch. -/
theorem row_mod (b t : Fin 16) : (b.val * 16 + t.val) % 16 = t.val := by omega

/-- The stacked input rows. -/
theorem v0_at (c : Dev nD) (b t : Fin 16) (k : Fin 1024) :
    (B1 m c (Proc.devRef .tc main_v0) : FVec Ideal S256x1024 .f32) (ix2 (row b t) k) = A0 m c (ix3 b t k) := by
  unfold B1 hostOps0
  after_reads_at
  simp only [row_div, row_mod]

/-- The tiled cosines. -/
theorem v4_at (c : Dev nD) (b t : Fin 16) (d : Fin 64) :
    (B1 m c (Proc.devRef .tc main_v4) : FVec Ideal S256x64 .f32) (ix2 (row b t) d) = A1 m c (ix4 0 0 t d) := by
  unfold B1 hostOps0
  after_reads_at
  simp only [row_div, row_mod]

/-- The tiled signed sines. -/
theorem v12_at (c : Dev nD) (b t : Fin 16) (d : Fin 64) :
    (B1 m c (Proc.devRef .tc main_v12) : FVec Ideal S256x64 .f32) (ix2 (row b t) d) = if d.val < 32 then -(A2 m c (ix4 0 0 t d) : EReal) else A2 m c (ix4 0 0 t d)  := by
  unfold B1 hostOps0
  after_reads_at
  after_reads_at
  simp only [row_div, row_mod]
  by_cases h : d.val < 32
  · refine Eq.trans ?_ (if_pos h).symm
    exact dif_pos h
  · refine Eq.trans ?_ (if_neg h).symm
    refine (dif_neg h).trans ?_
    have e : (⟨32 + (d.val - 32), by omega⟩ : Fin 64) = d := Fin.ext (by show 32 + (d.val - 32) = d.val; omega)
    exact congrArg (fun z : Fin 64 => A2 m c (ix4 0 0 t z)) e

/-- The query bias as a row. -/
theorem v13_at (c : Dev nD) (e : Fin 1024) :
    (B1 m c (Proc.devRef .tc main_v13) : FVec Ideal S1x1024 .f32) (ix2 0 e) = A6 m c (Idealize.ShloMosaic.ix1 e) := by
  unfold B1 hostOps0
  after_reads_at

/-- The key bias as a row. -/
theorem v14_at (c : Dev nD) (e : Fin 1024) :
    (B1 m c (Proc.devRef .tc main_v14) : FVec Ideal S1x1024 .f32) (ix2 0 e) = A8 m c (Idealize.ShloMosaic.ix1 e) := by
  unfold B1 hostOps0
  after_reads_at

/-- The value bias as a row. -/
theorem v15_at (c : Dev nD) (e : Fin 1024) :
    (B1 m c (Proc.devRef .tc main_v15) : FVec Ideal S1x1024 .f32) (ix2 0 e) = A10 m c (Idealize.ShloMosaic.ix1 e) := by
  unfold B1 hostOps0
  after_reads_at

/-- The past keys, transposed. -/
theorem v23_at (c : Dev nD) (b h : Fin 16) (x : Fin 64) (j : Fin 2048) :
    (B3 m c (Proc.devRef .tc main_v23) : FVec Ideal S16x16x64x2048 .f32) (ix4 b h x j) = A3 m c (ix4 b h j x) := by
  have e := B2_args m c main_arg3 (by decide)
  unfold B3 hostOps1
  after_reads_at
  exact congrFun e _

/-- The past values, transposed. -/
theorem v24_at (c : Dev nD) (b h : Fin 16) (x : Fin 64) (j : Fin 2048) :
    (B3 m c (Proc.devRef .tc main_v24) : FVec Ideal S16x16x64x2048 .f32) (ix4 b h x j) = A4 m c (ix4 b h j x) := by
  have e := B2_args m c main_arg4 (by decide)
  unfold B3 hostOps1
  after_reads_at
  exact congrFun e _

/-- The closing bias as a row. -/
theorem v25_at (c : Dev nD) (e : Fin 1024) :
    (B3 m c (Proc.devRef .tc main_v25) : FVec Ideal S1x1024 .f32) (ix2 0 e) = A12 m c (Idealize.ShloMosaic.ix1 e) := by
  have h := B2_args m c main_arg12 (by decide)
  unfold B3 hostOps1
  after_reads_at
  exact congrFun h _

/-- The table's first row: the past lengths. -/
theorem v19_at0 (c : Dev nD) (b : Fin 16) :
    (B3 m c (Proc.devRef .tc main_v19) : IVec S2x16 32) (ix2 0 b) = A13 m c (Idealize.ShloMosaic.ix1 b) := by
  have h := B2_args m c main_arg13 (by decide)
  unfold B3 hostOps1
  after_reads_at
  exact congrFun h _

/-- The table's second row: the counts of new rows. -/
theorem v19_at1 (c : Dev nD) (b : Fin 16) :
    (B3 m c (Proc.devRef .tc main_v19) : IVec S2x16 32) (ix2 1 b) = A14 m c (Idealize.ShloMosaic.ix1 b) := by
  have h := B2_args m c main_arg14 (by decide)
  unfold B3 hostOps1
  after_reads_at
  exact congrFun h _

/-- The stacked rows of output 0 of the first region, by batch element. -/
theorem v20_at (c : Dev nD) (b t : Fin 16) (e : Fin 1024) :
    (B3 m c (Proc.devRef .tc main_v20) : FVec Ideal S16x16x1024 .f32) (ix3 b t e) = (B2 m c (Proc.devRef .tc main_v16_0) : FVec Ideal S256x1024 .f32) (ix2 (row b t) e) := by
  unfold B3 hostOps1
  after_reads_at

/-- The stacked rows of output 1 of the first region, by batch element. -/
theorem v21_at (c : Dev nD) (b t : Fin 16) (e : Fin 1024) :
    (B3 m c (Proc.devRef .tc main_v21) : FVec Ideal S16x16x1024 .f32) (ix3 b t e) = (B2 m c (Proc.devRef .tc main_v16_1) : FVec Ideal S256x1024 .f32) (ix2 (row b t) e) := by
  unfold B3 hostOps1
  after_reads_at

/-- The stacked rows of output 2 of the first region, by batch element. -/
theorem v22_at (c : Dev nD) (b t : Fin 16) (e : Fin 1024) :
    (B3 m c (Proc.devRef .tc main_v22) : FVec Ideal S16x16x1024 .f32) (ix3 b t e) = (B2 m c (Proc.devRef .tc main_v16_2) : FVec Ideal S256x1024 .f32) (ix2 (row b t) e) := by
  unfold B3 hostOps1
  after_reads_at

end Cert.KernelIdeal.Run

end

end
-- ==== Proof.Value.Arr.lean ====
/- The arrays the first region leaves, over the extended reals. -/
module

public import proofs.«01_k».proof.Proof.Value.Heads
public import proofs.«01_k».proof.Proof.IdealRun.Run
public import Idealize.ShloMosaic.Lib.Pipeline.ValueKit

@[expose] public section

set_option maxRecDepth 16384

noncomputable section

namespace Cert.KernelIdeal.Run

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)
variable (V : Dev nD → Valuation τ sig (Elt Ideal))

/-! ## The first region -/

/-- The block of window 0 is its whole array. -/
theorem blk0_w0 (c : Dev nD) : (blk0 V c 0 t0_0 : FVec Ideal S256x1024 .f32) = V c (Proc.devRef .tc main_v0) := by
  have idx : ∀ t : Fin cfg0.N, win0_0.index t = ![0, 0] := (by decide +kernel : ∀ t : Fin grid0.N, _)
  blk_ext! [blk0, idx t0_0]

/-- The block of window 1 is its whole array. -/
theorem blk0_w1 (c : Dev nD) : (blk0 V c 1 t0_0 : FVec Ideal S1024x1024 .f32) = V c (Proc.devRef .tc main_arg5) := by
  have idx : ∀ t : Fin cfg0.N, win0_1.index t = ![0, 0] := (by decide +kernel : ∀ t : Fin grid0.N, _)
  blk_ext! [blk0, idx t0_0]

/-- The block of window 2 is its whole array. -/
theorem blk0_w2 (c : Dev nD) : (blk0 V c 2 t0_0 : FVec Ideal S1024x1024 .f32) = V c (Proc.devRef .tc main_arg7) := by
  have idx : ∀ t : Fin cfg0.N, win0_2.index t = ![0, 0] := (by decide +kernel : ∀ t : Fin grid0.N, _)
  blk_ext! [blk0, idx t0_0]

/-- The block of window 3 is its whole array. -/
theorem blk0_w3 (c : Dev nD) : (blk0 V c 3 t0_0 : FVec Ideal S1024x1024 .f32) = V c (Proc.devRef .tc main_arg9) := by
  have idx : ∀ t : Fin cfg0.N, win0_3.index t = ![0, 0] := (by decide +kernel : ∀ t : Fin grid0.N, _)
  blk_ext! [blk0, idx t0_0]

/-- The block of window 4 is its whole array. -/
theorem blk0_w4 (c : Dev nD) : (blk0 V c 4 t0_0 : FVec Ideal S1x1024 .f32) = V c (Proc.devRef .tc main_v13) := by
  have idx : ∀ t : Fin cfg0.N, win0_4.index t = ![0, 0] := (by decide +kernel : ∀ t : Fin grid0.N, _)
  blk_ext! [blk0, idx t0_0]

/-- The block of window 5 is its whole array. -/
theorem blk0_w5 (c : Dev nD) : (blk0 V c 5 t0_0 : FVec Ideal S1x1024 .f32) = V c (Proc.devRef .tc main_v14) := by
  have idx : ∀ t : Fin cfg0.N, win0_5.index t = ![0, 0] := (by decide +kernel : ∀ t : Fin grid0.N, _)
  blk_ext! [blk0, idx t0_0]

/-- The block of window 6 is its whole array. -/
theorem blk0_w6 (c : Dev nD) : (blk0 V c 6 t0_0 : FVec Ideal S1x1024 .f32) = V c (Proc.devRef .tc main_v15) := by
  have idx : ∀ t : Fin cfg0.N, win0_6.index t = ![0, 0] := (by decide +kernel : ∀ t : Fin grid0.N, _)
  blk_ext! [blk0, idx t0_0]

/-- The block of window 7 is its whole array. -/
theorem blk0_w7 (c : Dev nD) : (blk0 V c 7 t0_0 : FVec Ideal S256x64 .f32) = V c (Proc.devRef .tc main_v4) := by
  have idx : ∀ t : Fin cfg0.N, win0_7.index t = ![0, 0] := (by decide +kernel : ∀ t : Fin grid0.N, _)
  blk_ext! [blk0, idx t0_0]

/-- The block of window 8 is its whole array. -/
theorem blk0_w8 (c : Dev nD) : (blk0 V c 8 t0_0 : FVec Ideal S256x64 .f32) = V c (Proc.devRef .tc main_v12) := by
  have idx : ∀ t : Fin cfg0.N, win0_8.index t = ![0, 0] := (by decide +kernel : ∀ t : Fin grid0.N, _)
  blk_ext! [blk0, idx t0_0]

/-- The array of output 0 of the first region is the named value of the whole arrays. -/
theorem arr0_9 (c : Dev nD) : ((datP V c).arrAt 9 cfg0.N : FVec Ideal S256x1024 .f32) = out9 (V c (Proc.devRef .tc main_v0)) (V c (Proc.devRef .tc main_arg5)) (V c (Proc.devRef .tc main_arg7)) (V c (Proc.devRef .tc main_arg9)) (V c (Proc.devRef .tc main_v13)) (V c (Proc.devRef .tc main_v14)) (V c (Proc.devRef .tc main_v15)) (V c (Proc.devRef .tc main_v4)) (V c (Proc.devRef .tc main_v12)) := by
  have idx : ∀ t : Fin cfg0.N, win0_9.index t = ![0, 0] := (by decide +kernel : ∀ t : Fin grid0.N, _)
  refine (datP V c).arrAt_eq_of_after_last 9 t0_0 (by decide +kernel) _ fun j => ?_
  blk_simp
  rw [datP_after9, blk0_w0, blk0_w1, blk0_w2, blk0_w3, blk0_w4, blk0_w5, blk0_w6, blk0_w7, blk0_w8]

/-- Output 0 of the first region when the region is left. -/
theorem B2_v16_0 (c : Dev nD) : (B2 m c (Proc.devRef .tc main_v16_0) : FVec Ideal S256x1024 .f32) = out9 (B1 m c (Proc.devRef .tc main_v0)) (B1 m c (Proc.devRef .tc main_arg5)) (B1 m c (Proc.devRef .tc main_arg7)) (B1 m c (Proc.devRef .tc main_arg9)) (B1 m c (Proc.devRef .tc main_v13)) (B1 m c (Proc.devRef .tc main_v14)) (B1 m c (Proc.devRef .tc main_v15)) (B1 m c (Proc.devRef .tc main_v4)) (B1 m c (Proc.devRef .tc main_v12)) := by
  unfold B2
  exact (Pipeline.afterRegion_arr (datP (B1 m) c) (B1 m c) (launch0 (F := Ideal)).win.arr_inj 9).trans (arr0_9 (B1 m) c)

/-- The array of output 1 of the first region is the named value of the whole arrays. -/
theorem arr0_10 (c : Dev nD) : ((datP V c).arrAt 10 cfg0.N : FVec Ideal S256x1024 .f32) = out10 (V c (Proc.devRef .tc main_v0)) (V c (Proc.devRef .tc main_arg5)) (V c (Proc.devRef .tc main_arg7)) (V c (Proc.devRef .tc main_arg9)) (V c (Proc.devRef .tc main_v13)) (V c (Proc.devRef .tc main_v14)) (V c (Proc.devRef .tc main_v15)) (V c (Proc.devRef .tc main_v4)) (V c (Proc.devRef .tc main_v12)) := by
  have idx : ∀ t : Fin cfg0.N, win0_10.index t = ![0, 0] := (by decide +kernel : ∀ t : Fin grid0.N, _)
  refine (datP V c).arrAt_eq_of_after_last 10 t0_0 (by decide +kernel) _ fun j => ?_
  blk_simp
  rw [datP_after10, blk0_w0, blk0_w1, blk0_w2, blk0_w3, blk0_w4, blk0_w5, blk0_w6, blk0_w7, blk0_w8]

/-- Output 1 of the first region when the region is left. -/
theorem B2_v16_1 (c : Dev nD) : (B2 m c (Proc.devRef .tc main_v16_1) : FVec Ideal S256x1024 .f32) = out10 (B1 m c (Proc.devRef .tc main_v0)) (B1 m c (Proc.devRef .tc main_arg5)) (B1 m c (Proc.devRef .tc main_arg7)) (B1 m c (Proc.devRef .tc main_arg9)) (B1 m c (Proc.devRef .tc main_v13)) (B1 m c (Proc.devRef .tc main_v14)) (B1 m c (Proc.devRef .tc main_v15)) (B1 m c (Proc.devRef .tc main_v4)) (B1 m c (Proc.devRef .tc main_v12)) := by
  unfold B2
  exact (Pipeline.afterRegion_arr (datP (B1 m) c) (B1 m c) (launch0 (F := Ideal)).win.arr_inj 10).trans (arr0_10 (B1 m) c)

/-- The array of output 2 of the first region is the named value of the whole arrays. -/
theorem arr0_11 (c : Dev nD) : ((datP V c).arrAt 11 cfg0.N : FVec Ideal S256x1024 .f32) = out11 (V c (Proc.devRef .tc main_v0)) (V c (Proc.devRef .tc main_arg5)) (V c (Proc.devRef .tc main_arg7)) (V c (Proc.devRef .tc main_arg9)) (V c (Proc.devRef .tc main_v13)) (V c (Proc.devRef .tc main_v14)) (V c (Proc.devRef .tc main_v15)) (V c (Proc.devRef .tc main_v4)) (V c (Proc.devRef .tc main_v12)) := by
  have idx : ∀ t : Fin cfg0.N, win0_11.index t = ![0, 0] := (by decide +kernel : ∀ t : Fin grid0.N, _)
  refine (datP V c).arrAt_eq_of_after_last 11 t0_0 (by decide +kernel) _ fun j => ?_
  blk_simp
  rw [datP_after11, blk0_w0, blk0_w1, blk0_w2, blk0_w3, blk0_w4, blk0_w5, blk0_w6, blk0_w7, blk0_w8]

/-- Output 2 of the first region when the region is left. -/
theorem B2_v16_2 (c : Dev nD) : (B2 m c (Proc.devRef .tc main_v16_2) : FVec Ideal S256x1024 .f32) = out11 (B1 m c (Proc.devRef .tc main_v0)) (B1 m c (Proc.devRef .tc main_arg5)) (B1 m c (Proc.devRef .tc main_arg7)) (B1 m c (Proc.devRef .tc main_arg9)) (B1 m c (Proc.devRef .tc main_v13)) (B1 m c (Proc.devRef .tc main_v14)) (B1 m c (Proc.devRef .tc main_v15)) (B1 m c (Proc.devRef .tc main_v4)) (B1 m c (Proc.devRef .tc main_v12)) := by
  unfold B2
  exact (Pipeline.afterRegion_arr (datP (B1 m) c) (B1 m c) (launch0 (F := Ideal)).win.arr_inj 11).trans (arr0_11 (B1 m) c)

end Cert.KernelIdeal.Run

end
-- ==== Proof.Value.Arr1.lean ====
/- The array the second region leaves, from its block at every grid point, over the extended reals. -/
module

public import proofs.«01_k».proof.Proof.Value.Heads
public import proofs.«01_k».proof.Proof.IdealRun.Run
public import Idealize.ShloMosaic.Lib.Pipeline.ValueKit

@[expose] public section

set_option maxRecDepth 16384

noncomputable section

namespace Cert.KernelIdeal.Run

open Idealize.ShloMosaic Idealize.ShloMosaic.TcCoe Idealize.SL.Sem
open Idealize.ShloMosaic.Pipeline (Dat)
open Cert.KernelIdeal Cert.KernelIdeal.Gen

variable (V : Dev nD → Valuation τ sig (Elt Ideal))

/-- Contents of the table that no index map depends on. -/
def pf0 : pre1.Contents (Elt Ideal) := fun | ⟨0, _⟩ => fun _ => (0#32 : BitVec 32)
/-- Those contents are admissible. -/
theorem ok_pf0 : ok1 (F := Ideal) pf0 := by
  rw [ok1.eq_1]; decide +kernel
/-- The table with those contents. -/
def adm0 : (pcfg1 (F := Ideal)).Adm := ⟨pf0, ok_pf0⟩

/-- The blocks of the result written back cover it. -/
theorem covers7 : ((cfgA V).win 7).Covers := by
  show ((cfg1 adm0).win 7).Covers
  decide +kernel

/-- The index map of window 0. -/
theorem idx1_0 (t : Fin (cfgA V).N) : ((cfgA V).win 0).index t = ![(grid1.coords t 0).val, 0, 0] := by
  have h : ∀ t : Fin (cfg1 adm0).N, ((cfg1 adm0).win 0).index t = ![(grid1.coords t 0).val, 0, 0] :=
    (by decide +kernel : ∀ t : Fin grid1.N, _)
  exact h t

/-- The index map of window 1. -/
theorem idx1_1 (t : Fin (cfgA V).N) : ((cfgA V).win 1).index t = ![(grid1.coords t 0).val, 0, 0] := by
  have h : ∀ t : Fin (cfg1 adm0).N, ((cfg1 adm0).win 1).index t = ![(grid1.coords t 0).val, 0, 0] :=
    (by decide +kernel : ∀ t : Fin grid1.N, _)
  exact h t

/-- The index map of window 2. -/
theorem idx1_2 (t : Fin (cfgA V).N) : ((cfgA V).win 2).index t = ![(grid1.coords t 0).val, 0, 0] := by
  have h : ∀ t : Fin (cfg1 adm0).N, ((cfg1 adm0).win 2).index t = ![(grid1.coords t 0).val, 0, 0] :=
    (by decide +kernel : ∀ t : Fin grid1.N, _)
  exact h t

/-- The index map of window 3. -/
theorem idx1_3 (t : Fin (cfgA V).N) : ((cfgA V).win 3).index t = ![(grid1.coords t 0).val, 0, 0, 0] := by
  have h : ∀ t : Fin (cfg1 adm0).N, ((cfg1 adm0).win 3).index t = ![(grid1.coords t 0).val, 0, 0, 0] :=
    (by decide +kernel : ∀ t : Fin grid1.N, _)
  exact h t

/-- The index map of window 4. -/
theorem idx1_4 (t : Fin (cfgA V).N) : ((cfgA V).win 4).index t = ![(grid1.coords t 0).val, 0, 0, 0] := by
  have h : ∀ t : Fin (cfg1 adm0).N, ((cfg1 adm0).win 4).index t = ![(grid1.coords t 0).val, 0, 0, 0] :=
    (by decide +kernel : ∀ t : Fin grid1.N, _)
  exact h t

/-- The index map of window 5. -/
theorem idx1_5 (t : Fin (cfgA V).N) : ((cfgA V).win 5).index t = ![0, 0] := by
  have h : ∀ t : Fin (cfg1 adm0).N, ((cfg1 adm0).win 5).index t = ![0, 0] :=
    (by decide +kernel : ∀ t : Fin grid1.N, _)
  exact h t

/-- The index map of window 6. -/
theorem idx1_6 (t : Fin (cfgA V).N) : ((cfgA V).win 6).index t = ![0, 0] := by
  have h : ∀ t : Fin (cfg1 adm0).N, ((cfg1 adm0).win 6).index t = ![0, 0] :=
    (by decide +kernel : ∀ t : Fin grid1.N, _)
  exact h t

/-- The index map of window 7. -/
theorem idx1_7 (t : Fin (cfgA V).N) : ((cfgA V).win 7).index t = ![(grid1.coords t 0).val, 0, 0] := by
  have h : ∀ t : Fin (cfg1 adm0).N, ((cfg1 adm0).win 7).index t = ![(grid1.coords t 0).val, 0, 0] :=
    (by decide +kernel : ∀ t : Fin grid1.N, _)
  exact h t

/-- The block of window 0 at a grid point, at an index. -/
theorem blk1_0 (c : Dev nD) (t : Fin (cfgA V).N) (r : Fin 16) (e : Fin 1024) :
    (blk1 V c 0 t : FVec Ideal S1x16x1024 .f32) (ix3 0 r e) = (V c (Proc.devRef .tc main_v20) : FVec Ideal S16x16x1024 .f32) (ix3 (grid1.coords t 0) r e) := by
  unfold blk1
  refine congrArg (V c (Proc.devRef .tc main_v20)) (funext fun a => Fin.ext ?_)
  refine (((cfgA V).win 0).rect_emb_val t _ a rfl).trans ?_
  rw [idx1_0 V t]
  revert a
  show ∀ a : Fin S16x16x1024.rank, _
  intro a
  fin_cases a
  all_goals first | exact Nat.zero_add _ | exact (Nat.add_zero _).trans (Nat.mul_one _)

/-- The block of window 1 at a grid point, at an index. -/
theorem blk1_1 (c : Dev nD) (t : Fin (cfgA V).N) (r : Fin 16) (e : Fin 1024) :
    (blk1 V c 1 t : FVec Ideal S1x16x1024 .f32) (ix3 0 r e) = (V c (Proc.devRef .tc main_v21) : FVec Ideal S16x16x1024 .f32) (ix3 (grid1.coords t 0) r e) := by
  unfold blk1
  refine congrArg (V c (Proc.devRef .tc main_v21)) (funext fun a => Fin.ext ?_)
  refine (((cfgA V).win 1).rect_emb_val t _ a rfl).trans ?_
  rw [idx1_1 V t]
  revert a
  show ∀ a : Fin S16x16x1024.rank, _
  intro a
  fin_cases a
  all_goals first | exact Nat.zero_add _ | exact (Nat.add_zero _).trans (Nat.mul_one _)

/-- The block of window 2 at a grid point, at an index. -/
theorem blk1_2 (c : Dev nD) (t : Fin (cfgA V).N) (r : Fin 16) (e : Fin 1024) :
    (blk1 V c 2 t : FVec Ideal S1x16x1024 .f32) (ix3 0 r e) = (V c (Proc.devRef .tc main_v22) : FVec Ideal S16x16x1024 .f32) (ix3 (grid1.coords t 0) r e) := by
  unfold blk1
  refine congrArg (V c (Proc.devRef .tc main_v22)) (funext fun a => Fin.ext ?_)
  refine (((cfgA V).win 2).rect_emb_val t _ a rfl).trans ?_
  rw [idx1_2 V t]
  revert a
  show ∀ a : Fin S16x16x1024.rank, _
  intro a
  fin_cases a
  all_goals first | exact Nat.zero_add _ | exact (Nat.add_zero _).trans (Nat.mul_one _)

/-- The block of window 3 at a grid point, at an index. -/
theorem blk1_3 (c : Dev nD) (t : Fin (cfgA V).N) (h : Fin 16) (x : Fin 64) (j : Fin 2048) :
    (blk1 V c 3 t : FVec Ideal S1x16x64x2048 .f32) (ix4 0 h x j) = (V c (Proc.devRef .tc main_v23) : FVec Ideal S16x16x64x2048 .f32) (ix4 (grid1.coords t 0) h x j) := by
  unfold blk1
  refine congrArg (V c (Proc.devRef .tc main_v23)) (funext fun a => Fin.ext ?_)
  refine (((cfgA V).win 3).rect_emb_val t _ a rfl).trans ?_
  rw [idx1_3 V t]
  revert a
  show ∀ a : Fin S16x16x64x2048.rank, _
  intro a
  fin_cases a
  all_goals first | exact Nat.zero_add _ | exact (Nat.add_zero _).trans (Nat.mul_one _)

/-- The block of window 4 at a grid point, at an index. -/
theorem blk1_4 (c : Dev nD) (t : Fin (cfgA V).N) (h : Fin 16) (x : Fin 64) (j : Fin 2048) :
    (blk1 V c 4 t : FVec Ideal S1x16x64x2048 .f32) (ix4 0 h x j) = (V c (Proc.devRef .tc main_v24) : FVec Ideal S16x16x64x2048 .f32) (ix4 (grid1.coords t 0) h x j) := by
  unfold blk1
  refine congrArg (V c (Proc.devRef .tc main_v24)) (funext fun a => Fin.ext ?_)
  refine (((cfgA V).win 4).rect_emb_val t _ a rfl).trans ?_
  rw [idx1_4 V t]
  revert a
  show ∀ a : Fin S16x16x64x2048.rank, _
  intro a
  fin_cases a
  all_goals first | exact Nat.zero_add _ | exact (Nat.add_zero _).trans (Nat.mul_one _)

/-- The block of window 5 at a grid point, at an index. -/
theorem blk1_5 (c : Dev nD) (t : Fin (cfgA V).N) (r e : Fin 1024) :
    (blk1 V c 5 t : FVec Ideal S1024x1024 .f32) (ix2 r e) = (V c (Proc.devRef .tc main_arg11) : FVec Ideal S1024x1024 .f32) (ix2 r e) := by
  unfold blk1
  refine congrArg (V c (Proc.devRef .tc main_arg11)) (funext fun a => Fin.ext ?_)
  refine (((cfgA V).win 5).rect_emb_val t _ a rfl).trans ?_
  rw [idx1_5 V t]
  revert a
  show ∀ a : Fin S1024x1024.rank, _
  intro a
  fin_cases a
  all_goals first | exact Nat.zero_add _ | exact (Nat.add_zero _).trans (Nat.mul_one _)

/-- The block of window 6 at a grid point, at an index. -/
theorem blk1_6 (c : Dev nD) (t : Fin (cfgA V).N) (e : Fin 1024) :
    (blk1 V c 6 t : FVec Ideal S1x1024 .f32) (ix2 0 e) = (V c (Proc.devRef .tc main_v25) : FVec Ideal S1x1024 .f32) (ix2 0 e) := by
  unfold blk1
  refine congrArg (V c (Proc.devRef .tc main_v25)) (funext fun a => Fin.ext ?_)
  refine (((cfgA V).win 6).rect_emb_val t _ a rfl).trans ?_
  rw [idx1_6 V t]
  revert a
  show ∀ a : Fin S1x1024.rank, _
  intro a
  fin_cases a
  all_goals first | exact Nat.zero_add _ | exact (Nat.add_zero _).trans (Nat.mul_one _)

/-- Word 1 read from the table at a grid point. -/
theorem wordA_at (T : IVec S2x16 32) (i : grid1.Coords) : (wordA (F := Ideal) T i : BitVec 32) = T (ix2 0 (i 0)) := by
  have h := k1_off1_eq i
  unfold wordA
  refine congrArg T (funext fun a => Fin.ext ?_)
  refine (Rect.emb_apply _ _ a).trans ?_
  refine (congrArg (· + 1 * _) (congrFun h a)).trans ?_
  revert a
  show ∀ a : Fin 2, _
  intro a
  fin_cases a
  all_goals rfl

/-- Word 2 read from the table at a grid point. -/
theorem wordB_at (T : IVec S2x16 32) (i : grid1.Coords) : (wordB (F := Ideal) T i : BitVec 32) = T (ix2 1 (i 0)) := by
  have h := k1_off2_eq i
  unfold wordB
  refine congrArg T (funext fun a => Fin.ext ?_)
  refine (Rect.emb_apply _ _ a).trans ?_
  refine (congrArg (· + 1 * _) (congrFun h a)).trans ?_
  revert a
  show ∀ a : Fin 2, _
  intro a
  fin_cases a
  all_goals rfl

/-- The grid point of a batch element. -/
theorem pt_coords : ∀ t : Fin grid1.N, (grid1.coords t 0).val = t.val := by decide +kernel

/-- Where the result's block at a grid point lies. -/
theorem emb7 (t : Fin (cfgA V).N) (r : Fin 16) (e : Fin 1024) :
    ((((cfgA V).win 7).blk t).view.emb (ix3 0 r e) : S16x16x1024.Idx) = ix3 (grid1.coords t 0) r e := by
  refine funext fun a => Fin.ext ?_
  refine (((cfgA V).win 7).rect_emb_val t _ a rfl).trans ?_
  rw [idx1_7 V t]
  revert a
  show ∀ a : Fin S16x16x1024.rank, _
  intro a
  fin_cases a
  all_goals first | exact Nat.zero_add _ | exact (Nat.add_zero _).trans (Nat.mul_one _)

/-- An index of a block of one batch element. -/
theorem blockIdx (z : S1x16x1024.Idx) : ∃ (r : Fin 16) (e : Fin 1024), z = ix3 0 r e := ⟨z 1, z 2, by
  funext a
  fin_cases a
  · exact Subsingleton.elim (α := Fin 1) _ _
  · rfl
  · rfl⟩

/-- What a step leaves in its block, where the block lies in the result. -/
theorem arr7_step (c : Dev nD) (G : FVec Ideal S16x16x1024 .f32)
    (hG : ∀ (t : Fin (cfgA V).N) (r : Fin 16) (e : Fin 1024), outAt V c t (ix3 0 r e) = G (ix3 (grid1.coords t 0) r e))
    (t : Fin (cfgA V).N) (z : S1x16x1024.Idx) : outAt V c t z = G ((((cfgA V).win 7).blk t).view.emb z) := by
  obtain ⟨r, e, rfl⟩ := blockIdx z
  exact (hG t r e).trans (congrArg G (emb7 V t r e).symm)

end Cert.KernelIdeal.Run

end
-- ==== Proof.Value.Arr2.lean ====
/- The array the second region leaves, from its block at every grid point, over the extended reals. -/
module

public import proofs.«01_k».proof.Proof.Value.Arr1
public import proofs.«01_k».proof.Proof.IdealRun.Run
public import Idealize.ShloMosaic.Lib.Pipeline.ValueKit

@[expose] public section

set_option maxRecDepth 16384

noncomputable section

namespace Cert.KernelIdeal.Run

open Idealize.ShloMosaic Idealize.ShloMosaic.TcCoe Idealize.SL.Sem
open Idealize.ShloMosaic.Pipeline (Dat)
open Cert.KernelIdeal Cert.KernelIdeal.Gen

variable (V : Dev nD → Valuation τ sig (Elt Ideal))

/-- The result's buffer is whole. -/
theorem whole7 : ((cfgA V).win 7).arr.IsWhole := Memref.isWhole_whole _

/-- A block's index as the array's body leaves it is the index itself. -/
theorem xinj7 (t : Fin (cfgA V).N) (y : (((cfgA V).win 7).xblock ((cfgA V).grid.coords t)).Idx) :
    (((cfgA V).win 7).xinj ((cfgA V).grid.coords t) y : S1x16x1024.Idx) = y := rfl

/-- What a step writes back, where the block lies in the result. -/
theorem arr7s (c : Dev nD) (G : FVec Ideal S16x16x1024 .f32)
    (hG : ∀ (t : Fin (cfgA V).N) (r : Fin 16) (e : Fin 1024), outAt V c t (ix3 0 r e) = G (ix3 (grid1.coords t 0) r e))
    (t : Fin (cfgA V).N) (y : (((cfgA V).win 7).xblock ((cfgA V).grid.coords t)).Idx) :
      _root_.cast (congrArg (Elt Ideal) (((cfgA V).win 7).blk t).view.elt_eq.symm) ((datA V c).after 7 t (((cfgA V).win 7).xinj ((cfgA V).grid.coords t) y))
        = G ((((cfgA V).win 7).blk t).view.emb y) := by
  refine (congrArg _ (congrFun (datA_after7 V c t) _)).trans ?_
  refine (cast_eq _ _).trans ?_
  exact arr7_step V c G hG t y

/-- The result's array once every step has written its block. -/
theorem arr7 (c : Dev nD) (G : FVec Ideal S16x16x1024 .f32)
    (hG : ∀ (t : Fin (cfgA V).N) (r : Fin 16) (e : Fin 1024), outAt V c t (ix3 0 r e) = G (ix3 (grid1.coords t 0) r e)) :
    (datA V c).arrAt 7 (cfgA V).N = G :=
  Dat.arrAt_eq_of_covers (datA V c) 7 G (covers7 V) (fun t _ y => arr7s V c G hG t y) (whole7 V)

end Cert.KernelIdeal.Run

end
-- ==== Proof.Value.Kern.lean ====
/- The kernel's result at an index, as a function of the arguments, over the extended reals. -/
module

public import proofs.«01_k».proof.Proof.Value.Host
public import proofs.«01_k».proof.Proof.Value.Arr
public import proofs.«01_k».proof.Proof.Value.Arr2

@[expose] public section

set_option maxRecDepth 16384

noncomputable section

namespace Cert.KernelIdeal.Run

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- A query column of a new row before its turn. -/
def qlin (c : Dev nD) (b t h : Fin 16) (d : Fin 64) : EReal :=
  Cert.Value.lin (fun k => A0 m c (ix3 b t k)) (fun k => A5 m c (ix2 (hcol h d) k)) (A6 m c (Idealize.ShloMosaic.ix1 (hcol h d)))
/-- A key column of a new row before its turn. -/
def klin (c : Dev nD) (b t h : Fin 16) (d : Fin 64) : EReal :=
  Cert.Value.lin (fun k => A0 m c (ix3 b t k)) (fun k => A7 m c (ix2 (hcol h d) k)) (A8 m c (Idealize.ShloMosaic.ix1 (hcol h d)))
/-- A value column of a new row. -/
def vlin (c : Dev nD) (b t h : Fin 16) (d : Fin 64) : EReal :=
  Cert.Value.lin (fun k => A0 m c (ix3 b t k)) (fun k => A9 m c (ix2 (hcol h d) k)) (A10 m c (Idealize.ShloMosaic.ix1 (hcol h d)))
/-- A query column of a new row. -/
def qrow (c : Dev nD) (b t h : Fin 16) (d : Fin 64) : EReal :=
  Cert.Value.turn (fun d => qlin m c b t h d) (fun d => A1 m c (ix4 0 0 t d)) (fun d => A2 m c (ix4 0 0 t d)) d
/-- A key column of a new row. -/
def krow (c : Dev nD) (b t h : Fin 16) (d : Fin 64) : EReal :=
  Cert.Value.turn (fun d => klin m c b t h d) (fun d => A1 m c (ix4 0 0 t d)) (fun d => A2 m c (ix4 0 0 t d)) d

/-- The first region's query projection. -/
theorem proj_q (c : Dev nD) (b t h : Fin 16) (d : Fin 64) :
    proj0 (B1 m c (Proc.devRef .tc main_v0)) (B1 m c (Proc.devRef .tc main_arg5)) (B1 m c (Proc.devRef .tc main_v13)) (ix2 (row b t) (hcol h d)) = qlin m c b t h d := by
  rw [proj0_at, v13_at m c, B1_args m c main_arg5 (by decide)]
  unfold qlin
  exact congrArg (fun f => Cert.Value.lin f _ _) (funext fun k => v0_at m c b t k)

/-- The first region's key projection. -/
theorem proj_k (c : Dev nD) (b t h : Fin 16) (d : Fin 64) :
    proj0 (B1 m c (Proc.devRef .tc main_v0)) (B1 m c (Proc.devRef .tc main_arg7)) (B1 m c (Proc.devRef .tc main_v14)) (ix2 (row b t) (hcol h d)) = klin m c b t h d := by
  rw [proj0_at, v14_at m c, B1_args m c main_arg7 (by decide)]
  unfold klin
  exact congrArg (fun f => Cert.Value.lin f _ _) (funext fun k => v0_at m c b t k)

/-- The first region's value projection. -/
theorem proj_v (c : Dev nD) (b t h : Fin 16) (d : Fin 64) :
    proj0 (B1 m c (Proc.devRef .tc main_v0)) (B1 m c (Proc.devRef .tc main_arg9)) (B1 m c (Proc.devRef .tc main_v15)) (ix2 (row b t) (hcol h d)) = vlin m c b t h d := by
  rw [proj0_at, v15_at m c, B1_args m c main_arg9 (by decide)]
  unfold vlin
  exact congrArg (fun f => Cert.Value.lin f _ _) (funext fun k => v0_at m c b t k)

/-- Queries of the first region, from the projected columns. -/
theorem out9_gen (x0 : Vec Ideal S256x1024 .f32) (x1 x2 x3 : Vec Ideal S1024x1024 .f32) (x4 x5 x6 : Vec Ideal S1x1024 .f32) (x7 x8 : Vec Ideal S256x64 .f32)
    (r : Fin 256) (h : Fin 16) (d : Fin 64) (y c s : Fin 64 → EReal) (hy : ∀ d, proj0 x0 x1 x4 (ix2 r (hcol h d)) = y d) (h7 : x7 (ix2 r d) = c d)
    (h8 : x8 (ix2 r d) = if d.val < 32 then -(s d) else s d) :
    out9 x0 x1 x2 x3 x4 x5 x6 x7 x8 (ix2 r (hcol h d)) = Cert.Value.turn y c s d := by
  rw [out9_at]
  simp only [hy, h7]
  exact Cert.Value.turn_sine y c s (fun _ => x8 (ix2 r d)) d h8

/-- Keys of the first region, from the projected columns. -/
theorem out10_gen (x0 : Vec Ideal S256x1024 .f32) (x1 x2 x3 : Vec Ideal S1024x1024 .f32) (x4 x5 x6 : Vec Ideal S1x1024 .f32) (x7 x8 : Vec Ideal S256x64 .f32)
    (r : Fin 256) (h : Fin 16) (d : Fin 64) (y c s : Fin 64 → EReal) (hy : ∀ d, proj0 x0 x2 x5 (ix2 r (hcol h d)) = y d) (h7 : x7 (ix2 r d) = c d)
    (h8 : x8 (ix2 r d) = if d.val < 32 then -(s d) else s d) :
    out10 x0 x1 x2 x3 x4 x5 x6 x7 x8 (ix2 r (hcol h d)) = Cert.Value.turn y c s d := by
  rw [out10_at]
  simp only [hy, h7]
  exact Cert.Value.turn_sine y c s (fun _ => x8 (ix2 r d)) d h8

/-- The queries the second region reads. -/
theorem q_at (c : Dev nD) (b t h : Fin 16) (d : Fin 64) :
    (B3 m c (Proc.devRef .tc main_v20) : FVec Ideal S16x16x1024 .f32) (ix3 b t (hcol h d)) = qrow m c b t h d :=
  (v20_at m c b t (hcol h d)).trans ((congrFun (B2_v16_0 m c) _).trans
    (out9_gen _ _ _ _ _ _ _ _ _ (row b t) h d (fun d => qlin m c b t h d) (fun d => A1 m c (ix4 0 0 t d)) (fun d => A2 m c (ix4 0 0 t d))
      (fun d => proj_q m c b t h d) (v4_at m c b t d) (v12_at m c b t d)))

/-- The new keys the second region reads. -/
theorem k_at (c : Dev nD) (b t h : Fin 16) (d : Fin 64) :
    (B3 m c (Proc.devRef .tc main_v21) : FVec Ideal S16x16x1024 .f32) (ix3 b t (hcol h d)) = krow m c b t h d :=
  (v21_at m c b t (hcol h d)).trans ((congrFun (B2_v16_1 m c) _).trans
    (out10_gen _ _ _ _ _ _ _ _ _ (row b t) h d (fun d => klin m c b t h d) (fun d => A1 m c (ix4 0 0 t d)) (fun d => A2 m c (ix4 0 0 t d))
      (fun d => proj_k m c b t h d) (v4_at m c b t d) (v12_at m c b t d)))

/-- The new values the second region reads. -/
theorem vv_at (c : Dev nD) (b t h : Fin 16) (d : Fin 64) :
    (B3 m c (Proc.devRef .tc main_v22) : FVec Ideal S16x16x1024 .f32) (ix3 b t (hcol h d)) = vlin m c b t h d := by
  rw [v22_at m c, B2_v16_2 m c, out11_eq]
  exact proj_v m c b t h d

/-- A column of one head's mix of a new row. -/
def mixed (P C : ℕ) (c : Dev nD) (b t h : Fin 16) (d : Fin 64) : EReal :=
  Cert.Value.kmix P C (fun x => qrow m c b t h x) (fun j x => A3 m c (ix4 b h j x)) (fun j x => A4 m c (ix4 b h j x))
    (fun i x => krow m c b i h x) (fun i x => vlin m c b i h x) d

/-- The head of a column. -/
abbrev hd (k : Fin 1024) : Fin 16 := ⟨k.val / 64, by omega⟩
/-- The place of a column in its head. -/
abbrev lo (k : Fin 1024) : Fin 64 := ⟨k.val % 64, by omega⟩

/-- The result at an index. -/
def resAt (P C : Fin 16 → ℕ) (c : Dev nD) (b t : Fin 16) (e : Fin 1024) : EReal :=
  if t.val < C b then ∑ k, mixed m (P b) (C b) c b t (hd k) (lo k) * A11 m c (ix2 e k) + A12 m c (Idealize.ShloMosaic.ix1 e) else 0

/-- The result as one array. -/
def res (P C : Fin 16 → ℕ) (c : Dev nD) : FVec Ideal S16x16x1024 .f32 := fun i => resAt m P C c (i 0) (i 1) (i 2)

/-- The body's output at an index, from what its blocks hold. -/
theorem outA_gen (a b : BitVec 32) (P C : ℕ) (hP : P ≤ 2048) (hC : C ≤ 16) (ha : a = BitVec.ofNat 32 P) (hb : b = BitVec.ofNat 32 C)
    (x0 x1 x2 : Vec Ideal S1x16x1024 .f32) (x3 x4 : Vec Ideal S1x16x64x2048 .f32) (x5 : Vec Ideal S1024x1024 .f32) (x6 : Vec Ideal S1x1024 .f32)
    (r : Fin 16) (e : Fin 1024) (q k v : Fin 16 → Fin 16 → Fin 64 → EReal) (kp vp : Fin 16 → Fin 2048 → Fin 64 → EReal) (w : Fin 1024 → EReal) (z : EReal)
    (h0 : ∀ h d, x0 (ix3 0 r (hcol h d)) = q r h d) (h1 : ∀ i h d, x1 (ix3 0 i (hcol h d)) = k i h d) (h2 : ∀ i h d, x2 (ix3 0 i (hcol h d)) = v i h d)
    (h3 : ∀ h j x, x3 (ix4 0 h x j) = kp h j x) (h4 : ∀ h j x, x4 (ix4 0 h x j) = vp h j x) (h5 : ∀ k, x5 (ix2 e k) = w k) (h6 : x6 (ix2 0 e) = z) :
    outA a b x0 x1 x2 x3 x4 x5 x6 (ix3 0 r e) = if r.val < C then
      ∑ n : Fin 1024, Cert.Value.kmix P C (fun x => q r (hd n) x) (kp (hd n)) (vp (hd n)) (fun i x => k i (hd n) x) (fun i x => v i (hd n) x) (lo n) * w n + z else 0 := by
  rw [outA_at a b P C hP hC ha hb, h6]
  have hs : ∀ n : Fin 1024, headsOut (rows x0) (rows x1) (rows x2) (k1_pay5 a b) x3 x4 (ix2 r n)
      = Cert.Value.kmix P C (fun x => q r (hd n) x) (kp (hd n)) (vp (hd n)) (fun i x => k i (hd n) x) (fun i x => v i (hd n) x) (lo n) := fun n => by
    have hn : hcol (hd n) (lo n) = n := Fin.ext (by show 64 * (n.val / 64) + n.val % 64 = n.val; omega)
    have := headsOut_at a b P C hP hC ha hb (rows x0) (rows x1) (rows x2) x3 x4 r (hd n) (lo n)
    rw [hn] at this
    rw [this]
    simp only [rows_at, h0, h1, h2, h3, h4]
  simp only [hs, h5]

/-- The result when the second region is left. -/
theorem B4_v26 (P C : Fin 16 → ℕ) (hP : ∀ b, P b ≤ 2048) (hC : ∀ b, C b ≤ 16) (c : Dev nD)
    (h13 : ∀ b, A13 m c (Idealize.ShloMosaic.ix1 b) = BitVec.ofNat 32 (P b)) (h14 : ∀ b, A14 m c (Idealize.ShloMosaic.ix1 b) = BitVec.ofNat 32 (C b)) :
    (B4 m c (Proc.devRef .tc main_v26) : FVec Ideal S16x16x1024 .f32) = res m P C c := by
  obtain rfl : c = 0 := Subsingleton.elim _ _
  unfold B4
  refine (Pipeline.afterRegion_arr (datA (B3 m) 0) (B3 m 0) (launch1 (F := Ideal)).win.arr_inj 7).trans ?_
  refine arr7 (B3 m) 0 (res m P C 0) fun t r e => ?_
  obtain ⟨b, hb⟩ : ∃ b : Fin 16, grid1.coords t 0 = b := ⟨_, rfl⟩
  have ea : (wordA (tbl (B3 m) 0) (grid1.coords t) : BitVec 32) = BitVec.ofNat 32 (P b) :=
    (wordA_at (tbl (B3 m) 0) (grid1.coords t)).trans (((congrArg (fun i : Fin 16 => (B3 m 0 (Proc.devRef .tc main_v19) : IVec S2x16 32) (ix2 0 i)) hb).trans (v19_at0 m 0 b)).trans (h13 b))
  have eb : (wordB (tbl (B3 m) 0) (grid1.coords t) : BitVec 32) = BitVec.ofNat 32 (C b) :=
    (wordB_at (tbl (B3 m) 0) (grid1.coords t)).trans (((congrArg (fun i : Fin 16 => (B3 m 0 (Proc.devRef .tc main_v19) : IVec S2x16 32) (ix2 1 i)) hb).trans (v19_at1 m 0 b)).trans (h14 b))
  refine (outA_gen _ _ (P b) (C b) (hP b) (hC b) ea eb _ _ _ _ _ _ _ r e (fun i h d => qrow m 0 b i h d) (fun i h d => krow m 0 b i h d) (fun i h d => vlin m 0 b i h d)
    (fun h j x => A3 m 0 (ix4 b h j x)) (fun h j x => A4 m 0 (ix4 b h j x)) (fun k => A11 m 0 (ix2 e k)) (A12 m 0 (Idealize.ShloMosaic.ix1 e))
    (fun h d => (blk1_0 (B3 m) 0 t r (hcol h d)).trans (by rw [hb]; exact q_at m 0 b r h d))
    (fun i h d => (blk1_1 (B3 m) 0 t i (hcol h d)).trans (by rw [hb]; exact k_at m 0 b i h d))
    (fun i h d => (blk1_2 (B3 m) 0 t i (hcol h d)).trans (by rw [hb]; exact vv_at m 0 b i h d))
    (fun h j x => (blk1_3 (B3 m) 0 t h x j).trans (by rw [hb]; exact v23_at m 0 b h x j))
    (fun h j x => (blk1_4 (B3 m) 0 t h x j).trans (by rw [hb]; exact v24_at m 0 b h x j))
    (fun k => (blk1_5 (B3 m) 0 t e k).trans (congrFun (B3_args m 0 main_arg11 (by decide)) _))
    ((blk1_6 (B3 m) 0 t e).trans (v25_at m 0 e))).trans ?_
  show _ = resAt m P C 0 (grid1.coords t 0) r e
  rw [hb]
  rfl

end Cert.KernelIdeal.Run

end
-- ==== Proof.Value.Pre.lean ====
/- What the precondition says of the arguments, over the extended reals. -/
module

public import proofs.«01_k».proof.Proof.Gen.Pre_pre
public import proofs.«01_k».proof.Proof.Value.Mix
public import Idealize.ShloMosaic.Lib.ReduceAll
public import Idealize.ShloMosaic.Lib.Pointwise

@[expose] public section

set_option maxRecDepth 16384

noncomputable section

namespace Cert.Value

open Idealize.ShloMosaic
open Cert.Pre_pre Cert.Pre_pre.Gen

/-- A value whose magnitude is below infinity is a real. -/
theorem real_of_lt (x : EReal) (h : max x (-x) < ⊤) : IsReal x := by
  refine ⟨x.toReal, (EReal.coe_toReal ?_ ?_).symm⟩
  · rintro rfl; simp at h
  · rintro rfl; simp at h

/-- The pattern of infinity. -/
theorem ofBits_top : Ideal.ofBits FTy.f32 0x7F800000#32 = ⊤ := by
  simp [Ideal.ofBits, Ideal.ieee]

/-- A one-bit word of a truth value is one where the value is true. -/
theorem ofBool_one (b : Bool) (h : BitVec.ofBool b = 1#1) : b = true := by
  cases b
  · exact absurd h (by decide)
  · rfl

/-- An entry that the finiteness test passes is a real. -/
theorem real_of_test {S : Shape} (x : FVec Ideal S .f32) (hb : S_.BroadcastsInDim S (![] : Fin 0 → Fin S.rank)) (i : S.Idx)
    (h : cmpf .olt (Host.absf x) (broadcastInDim S ![] hb (constant S_ .f32 0x7F800000#32)) i = 1#1) : IsReal (x i) := by
  apply real_of_lt
  have h' : BitVec.ofBool (decide (max (x i : EReal) (-(x i : EReal)) < Ideal.ofBits FTy.f32 0x7F800000#32)) = 1#1 := h
  rw [ofBits_top] at h'
  exact of_decide_eq_true (ofBool_one _ h')

/-- A word between two small naturals is a natural between them. -/
theorem nat_of_test (x : BitVec 32) (lo hi : ℕ) (hlo : lo < 2147483648) (hhi : hi < 2147483648)
    (h : IntOp.andi (IntOp.cmpi .sge x (BitVec.ofNat 32 lo)) (IntOp.cmpi .sle x (BitVec.ofNat 32 hi)) = 1#1) :
    ∃ n : ℕ, lo ≤ n ∧ n ≤ hi ∧ x = BitVec.ofNat 32 n := by
  obtain ⟨h1, h2⟩ := IntOp.andi_eq_one.1 h
  have e : ∀ n : ℕ, n < 2147483648 → (BitVec.ofNat 32 n).toInt = (n : ℤ) := fun n hn => by
    rw [BitVec.toInt_eq_toNat_of_lt (by rw [BitVec.toNat_ofNat]; omega), BitVec.toNat_ofNat, Nat.mod_eq_of_lt (by omega)]
  have h1 := IntOp.cmpi_sge.1 h1
  have h2 := IntOp.cmpi_sle.1 h2
  rw [e lo hlo] at h1
  rw [e hi hhi] at h2
  have hx : x.toInt = (x.toNat : ℤ) := by
    have := BitVec.toInt_eq_toNat_cond x
    have hl := x.isLt
    split at this <;> omega
  refine ⟨x.toNat, by omega, by omega, ?_⟩
  apply BitVec.eq_of_toNat_eq
  rw [BitVec.toNat_ofNat, Nat.mod_eq_of_lt x.isLt]

instance : Subsingleton S_.Idx := ⟨fun a b => funext fun k => k.elim0⟩

/-- The facts the precondition states. -/
structure Facts (x0 : FVec Ideal S16x16x1024 .f32) (x1 x2 : FVec Ideal S1x1x16x64 .f32) (x3 : FVec Ideal S16x16x2048x64 .f32)
    (x5 : FVec Ideal S1024x1024 .f32) (x6 : FVec Ideal S1024 .f32) (x7 : FVec Ideal S1024x1024 .f32) (x8 : FVec Ideal S1024 .f32)
    (x13 x14 : IVec S16 32) (x15 : IVec S16x16 1) : Prop where
  /-- The lengths of the past rows. -/
  past : ∀ b : Fin 16, ∃ P : ℕ, P ≤ 2048 ∧ x13 (ix1 b) = BitVec.ofNat 32 P
  /-- The counts of the new rows. -/
  count : ∀ b : Fin 16, ∃ C : ℕ, 1 ≤ C ∧ C ≤ 16 ∧ x14 (ix1 b) = BitVec.ofNat 32 C
  /-- The mask of the new rows. -/
  mask : ∀ b t : Fin 16, x15 (ix2 b t) = IntOp.cmpi .slt (BitVec.ofNat 32 t.val) (x14 (ix1 b))
  real0 : ∀ i, IsReal (x0 i)
  real1 : ∀ i, IsReal (x1 i)
  real2 : ∀ i, IsReal (x2 i)
  real3 : ∀ i, IsReal (x3 i)
  real5 : ∀ i, IsReal (x5 i)
  real6 : ∀ i, IsReal (x6 i)
  real7 : ∀ i, IsReal (x7 i)
  real8 : ∀ i, IsReal (x8 i)

/-- Where the precondition holds, its facts hold. -/
theorem facts_of_pre (x0 : FVec Ideal S16x16x1024 .f32) (x1 x2 : FVec Ideal S1x1x16x64 .f32) (x3 x4 : FVec Ideal S16x16x2048x64 .f32)
    (x5 : FVec Ideal S1024x1024 .f32) (x6 : FVec Ideal S1024 .f32) (x7 : FVec Ideal S1024x1024 .f32) (x8 : FVec Ideal S1024 .f32)
    (x9 : FVec Ideal S1024x1024 .f32) (x10 : FVec Ideal S1024 .f32) (x11 : FVec Ideal S1024x1024 .f32) (x12 : FVec Ideal S1024 .f32)
    (x13 x14 : IVec S16 32) (x15 : IVec S16x16 1)
    (h : Cert.Pre_pre.fn (F := Ideal) x0 x1 x2 x3 x4 x5 x6 x7 x8 x9 x10 x11 x12 x13 x14 x15 = fun _ => 1#1) :
    Facts x0 x1 x2 x3 x5 x6 x7 x8 x13 x14 x15 := by
  have e := congrFun h (fun k => k.elim0)
  unfold fn fn_part1 fn_part2 fn_part3 at e
  obtain ⟨e1, e2⟩ := IntOp.andi_eq_one.1 e
  obtain ⟨e1, h15⟩ := IntOp.andi_eq_one.1 e1
  obtain ⟨h13, h14⟩ := IntOp.andi_eq_one.1 e1
  obtain ⟨e2, h8⟩ := IntOp.andi_eq_one.1 e2
  obtain ⟨e2, h7⟩ := IntOp.andi_eq_one.1 e2
  obtain ⟨e2, h6⟩ := IntOp.andi_eq_one.1 e2
  obtain ⟨e2, h5⟩ := IntOp.andi_eq_one.1 e2
  obtain ⟨e2, h3⟩ := IntOp.andi_eq_one.1 e2
  obtain ⟨e2, h2⟩ := IntOp.andi_eq_one.1 e2
  obtain ⟨h0, h1⟩ := IntOp.andi_eq_one.1 e2
  have m15 := Host.reduce_andi_all _ _ _ _ _ h15
  exact {
    past := fun b => by
      obtain ⟨n, _, h2, h3⟩ := nat_of_test (x13 (ix1 b)) 0 2048 (by omega) (by omega) (Host.reduce_andi_all _ _ _ _ _ h13 (ix1 b))
      exact ⟨n, h2, h3⟩
    count := fun b => nat_of_test (x14 (ix1 b)) 1 16 (by omega) (by omega) (Host.reduce_andi_all _ _ _ _ _ h14 (ix1 b))
    mask := fun b t => by
      refine (IntOp.cmpi_eq.1 (m15 (ix2 b t))).trans ?_
      pointwise
    real0 := fun i => real_of_test x0 _ i (Host.reduce_andi_all _ _ _ _ _ h0 i)
    real1 := fun i => real_of_test x1 _ i (Host.reduce_andi_all _ _ _ _ _ h1 i)
    real2 := fun i => real_of_test x2 _ i (Host.reduce_andi_all _ _ _ _ _ h2 i)
    real3 := fun i => real_of_test x3 _ i (Host.reduce_andi_all _ _ _ _ _ h3 i)
    real5 := fun i => real_of_test x5 _ i (Host.reduce_andi_all _ _ _ _ _ h5 i)
    real6 := fun i => real_of_test x6 _ i (Host.reduce_andi_all _ _ _ _ _ h6 i)
    real7 := fun i => real_of_test x7 _ i (Host.reduce_andi_all _ _ _ _ _ h7 i)
    real8 := fun i => real_of_test x8 _ i (Host.reduce_andi_all _ _ _ _ _ h8 i) }

end Cert.Value

end

end
-- ==== Proof.Value.Ref.lean ====
/- The definition's stages read at an index over the extended reals: projections, rotary turn and the masks. -/
module

public import proofs.«01_k».proof.Proof.Gen.ReferenceIdeal.Read
public import proofs.«01_k».proof.Proof.Value.Mix
public import Idealize.ShloMosaic.Lib.Pointwise
public import Idealize.ShloMosaic.Lib.WordCmp
public import Idealize.ShloMosaic.Lib.Tactic.WordOmega

@[expose] public section

set_option maxRecDepth 16384

noncomputable section

namespace Cert.ReferenceIdeal.Stage

open Idealize.ShloMosaic Idealize.ShloMosaic.TcCoe Idealize.SL.Sem
open Cert.ReferenceIdeal Cert.ReferenceIdeal.Gen Cert.ReferenceIdeal.Read
open Idealize.ShloMosaic.WordCmp (cmpi_slt_ofNat)

/-- Column `d` of head `h`. -/
abbrev col (h : Fin 16) (d : Fin 64) : Fin 1024 := ⟨64 * h.val + d.val, by omega⟩

/-- A projected row at column `d` of head `h`. -/
theorem projQ_at (x0 : FVec Ideal S16x16x1024 .f32) (x5 : FVec Ideal S1024x1024 .f32) (x6 : FVec Ideal S1024 .f32) (b h t : Fin 16) (d : Fin 64) :
    val_main_v6 (F := Ideal) x0 x5 x6 (ix4 b h t d) = Cert.Value.lin (fun k => x0 (ix3 b t k)) (fun k => x5 (ix2 (col h d) k)) (x6 (ix1 (col h d))) := by
  have hc : col h d = ⟨h.val * 64 + d.val, by omega⟩ := Fin.ext (by show 64 * h.val + d.val = h.val * 64 + d.val; omega)
  rw [hc]
  unfold Cert.Value.lin
  pointwise [val_main_v0, val_main_v1, val_main_v2, val_main_v3, val_main_v4, val_main_v5, val_main_v6]

/-- The projected keys. -/
theorem projK_at (x0 : FVec Ideal S16x16x1024 .f32) (x7 : FVec Ideal S1024x1024 .f32) (x8 : FVec Ideal S1024 .f32) (b h t : Fin 16) (d : Fin 64) :
    val_main_v13 (F := Ideal) x0 x7 x8 (ix4 b h t d) = Cert.Value.lin (fun k => x0 (ix3 b t k)) (fun k => x7 (ix2 (col h d) k)) (x8 (ix1 (col h d))) := by
  have hc : col h d = ⟨h.val * 64 + d.val, by omega⟩ := Fin.ext (by show 64 * h.val + d.val = h.val * 64 + d.val; omega)
  rw [hc]
  unfold Cert.Value.lin
  pointwise [val_main_v7, val_main_v8, val_main_v9, val_main_v10, val_main_v11, val_main_v12, val_main_v13]

/-- The projected values. -/
theorem projV_at (x0 : FVec Ideal S16x16x1024 .f32) (x9 : FVec Ideal S1024x1024 .f32) (x10 : FVec Ideal S1024 .f32) (b h t : Fin 16) (d : Fin 64) :
    val_main_v20 (F := Ideal) x0 x9 x10 (ix4 b h t d) = Cert.Value.lin (fun k => x0 (ix3 b t k)) (fun k => x9 (ix2 (col h d) k)) (x10 (ix1 (col h d))) := by
  have hc : col h d = ⟨h.val * 64 + d.val, by omega⟩ := Fin.ext (by show 64 * h.val + d.val = h.val * 64 + d.val; omega)
  rw [hc]
  unfold Cert.Value.lin
  pointwise [val_main_v14, val_main_v15, val_main_v16, val_main_v17, val_main_v18, val_main_v19, val_main_v20]

/-- The turned queries. -/
theorem ropeQ_at (x0 : FVec Ideal S16x16x1024 .f32) (x1 x2 : FVec Ideal S1x1x16x64 .f32) (x5 : FVec Ideal S1024x1024 .f32) (x6 : FVec Ideal S1024 .f32)
    (b h t : Fin 16) (d : Fin 64) :
    val_main_v29 (F := Ideal) x0 x1 x2 x5 x6 (ix4 b h t d) = Cert.Value.turn (fun d => val_main_v6 (F := Ideal) x0 x5 x6 (ix4 b h t d))
      (fun d => x1 (ix4 0 0 t d)) (fun d => x2 (ix4 0 0 t d)) d := by
  unfold val_main_v29 val_main_v28 val_main_v26 val_main_v25 val_main_v24 val_main_v23 val_main_v22
  generalize val_main_v6 (F := Ideal) x0 x5 x6 = y
  unfold Cert.Value.turn
  pointwise [val_main_v21, val_main_v27]

/-- The turned keys. -/
theorem ropeK_at (x0 : FVec Ideal S16x16x1024 .f32) (x1 x2 : FVec Ideal S1x1x16x64 .f32) (x7 : FVec Ideal S1024x1024 .f32) (x8 : FVec Ideal S1024 .f32)
    (b h t : Fin 16) (d : Fin 64) :
    val_main_v38 (F := Ideal) x0 x1 x2 x7 x8 (ix4 b h t d) = Cert.Value.turn (fun d => val_main_v13 (F := Ideal) x0 x7 x8 (ix4 b h t d))
      (fun d => x1 (ix4 0 0 t d)) (fun d => x2 (ix4 0 0 t d)) d := by
  unfold val_main_v38 val_main_v37 val_main_v35 val_main_v34 val_main_v33 val_main_v32 val_main_v31
  generalize val_main_v13 (F := Ideal) x0 x7 x8 = y
  unfold Cert.Value.turn
  pointwise [val_main_v30, val_main_v36]

/-- A validity bit as a factor. -/
theorem vmQ_at (x15 : IVec S16x16 1) (b h t : Fin 16) (d : Fin 64) :
    val_main_v41 (F := Ideal) x15 (ix4 b h t d) = (((x15 (ix2 b t)).toNat : ℝ) : EReal) := by
  pointwise [val_main_v39, val_main_v40, val_main_v41]
  rfl

/-- A validity bit as a factor of the result. -/
theorem vmO_at (x15 : IVec S16x16 1) (b t : Fin 16) (e : Fin 1024) :
    val_main_v170 (F := Ideal) x15 (ix3 b t e) = (((x15 (ix2 b t)).toNat : ℝ) : EReal) := by
  pointwise [val_main_v168, val_main_v169, val_main_v170]
  rfl

/-- The signed order of two small words is the order of their naturals. -/
theorem slt_ofNat (a b : ℕ) (ha : a < 2147483648) (hb : b < 2147483648) : (BitVec.ofNat 32 a).slt (BitVec.ofNat 32 b) = decide (a < b) := by
  have e : ∀ n : ℕ, n < 2147483648 → (BitVec.ofNat 32 n).toInt = (n : ℤ) := fun n hn => by
    rw [BitVec.toInt_eq_toNat_of_lt (by rw [BitVec.toNat_ofNat]; omega), BitVec.toNat_ofNat, Nat.mod_eq_of_lt (by omega)]
  show decide ((BitVec.ofNat 32 a).toInt < (BitVec.ofNat 32 b).toInt) = _
  rw [e a ha, e b hb]
  simp only [Nat.cast_lt]

/-- The signed minimum of two small words. -/
theorem minsi_ofNat (a b : ℕ) (ha : a < 2147483648) (hb : b < 2147483648) :
    IntOp.minsi (BitVec.ofNat 32 a) (BitVec.ofNat 32 b) = BitVec.ofNat 32 (min a b) := by
  unfold IntOp.minsi
  rw [slt_ofNat a b ha hb]
  by_cases h : a < b
  · rw [if_pos (decide_eq_true h), min_eq_left h.le]
  · rw [if_neg (by simpa using h), min_eq_right (by omega)]

/-- The signed maximum of two small words. -/
theorem maxsi_ofNat (a b : ℕ) (ha : a < 2147483648) (hb : b < 2147483648) :
    IntOp.maxsi (BitVec.ofNat 32 a) (BitVec.ofNat 32 b) = BitVec.ofNat 32 (max a b) := by
  unfold IntOp.maxsi
  rw [slt_ofNat b a hb ha]
  by_cases h : b < a
  · rw [if_pos (decide_eq_true h), max_eq_left h.le]
  · rw [if_neg (by simpa using h), max_eq_right (by omega)]

/-- The difference of two small words. -/
theorem subi_ofNat (a b : ℕ) (ha : a < 2147483648) (hb : b ≤ a) :
    IntOp.subi (BitVec.ofNat 32 a) (BitVec.ofNat 32 b) = BitVec.ofNat 32 (a - b) := by
  show BitVec.ofNat 32 a - BitVec.ofNat 32 b = _
  apply BitVec.eq_of_toNat_eq
  rw [BitVec.toNat_sub, BitVec.toNat_ofNat, BitVec.toNat_ofNat, BitVec.toNat_ofNat]
  omega

/-- The sum of two words. -/
theorem addi_ofNat (a b : ℕ) : IntOp.addi (BitVec.ofNat 32 a) (BitVec.ofNat 32 b) = BitVec.ofNat 32 (a + b) :=
  (BitVec.ofNat_add a b).symm

/-- The place index read in the past cache. -/
theorem pastIdx_at (p : Fin 2064) : val_main_v68 (F := Ideal) (ix2 p 0) = BitVec.ofNat 32 (min p.val 2047) := by
  pointwise [val_main_v68, val_main_v67, val_main_v66, val_main_v65, val_main_v64, val_main_v63, val_main_v62, val_main_v61, val_main_v48, val_main_c, val_main_c_0, val_main_c_1]
  have hp := p.isLt
  have hm := minsi_ofNat p.val 2047 (by omega) (by omega)
  rw [hm, cmpi_slt_ofNat (by omega) (by omega)]
  rfl

/-- Whether a place reads the past rows. -/
theorem fromPast_at (x13 : IVec S16 32) (b : Fin 16) (p : Fin 2064) : val_main_v53 (F := Ideal) x13 (ix2 b p) = IntOp.cmpi .slt (BitVec.ofNat 32 p.val) (x13 (ix1 b)) := by
  pointwise [val_main_v53, val_main_v52, val_main_v51, val_main_v50, val_main_v49, val_main_v48]

/-- Whether a place is in use. -/
theorem inTotal_at (x13 x14 : IVec S16 32) (b : Fin 16) (p : Fin 2064) : val_main_v59 (F := Ideal) x13 x14 (ix2 b p) = IntOp.cmpi .slt (BitVec.ofNat 32 p.val) (IntOp.addi (x13 (ix1 b)) (x14 (ix1 b))) := by
  pointwise [val_main_v59, val_main_v58, val_main_v57, val_main_v56, val_main_v55, val_main_v48, val_main_v47]

/-- The new row a place reads, before the index is made nonnegative. -/
theorem newIdx_at (x13 : IVec S16 32) (b : Fin 16) (p : Fin 2064) : val_main_v85 (F := Ideal) x13 (ix2 b p) = IntOp.minsi (IntOp.maxsi (IntOp.subi (BitVec.ofNat 32 p.val) (x13 (ix1 b))) 0#32) 15#32 := by
  pointwise [val_main_v85, val_main_v84, val_main_v83, val_main_v82, val_main_v81, val_main_v80, val_main_v79, val_main_v78, val_main_v77, val_main_v48, val_main_c_4, val_main_c_5]

/-- The batch a place reads the new rows of. -/
theorem newIdx2_at (x13 : IVec S16 32) (b : Fin 16) (p : Fin 2064) : val_main_v101 (F := Ideal) x13 (ix3 b p 0) = BitVec.ofNat 32 b.val := by
  pointwise [val_main_v101, val_main_v99, val_main_v98, val_main_v92, val_main_v91, val_main_v90, val_main_v89, val_main_v88, val_main_v87, val_main_v86, val_main_c_6, val_main_c_7]
  have hb := b.isLt
  rw [cmpi_slt_ofNat (by omega) (by omega)]
  rfl

/-- The new row a place reads. -/
theorem newIdx3_at (x13 : IVec S16 32) (b : Fin 16) (p : Fin 2064) : val_main_v101 (F := Ideal) x13 (ix3 b p 1) = val_main_v97 (F := Ideal) x13 (ix2 b p) := by
  unfold val_main_v101 val_main_v100
  generalize val_main_v97 (F := Ideal) x13 = y
  pointwise

/-- The row a place reads in the past cache. -/
theorem gatherPast_at (x : FVec Ideal S16x16x2048x64 .f32) (idx : IVec S2064x1 32) (b h : Fin 16) (p : Fin 2064) (d : Fin 64)
    (n : ℕ) (hn : n < 2048) (hi : idx (ix2 p 0) = BitVec.ofNat 32 n) :
    Host.gather gather_S16x16x2048x64_S2064x1_S16x16x2064x64_013_2_n_n_2_1_1616164 x idx (ix4 b h p d) = x (ix4 b h ⟨n, hn⟩ d) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  unfold GatherDims.start GatherDims.offCoord
  match a with
  | ⟨0, _⟩ => rw [dif_neg (show (⟨0, by decide⟩ : Fin S16x16x2048x64.rank) ∉ gather_S16x16x2048x64_S2064x1_S16x16x2064x64_013_2_n_n_2_1_1616164.startIndexMap by decide), dif_pos (show (⟨0, by decide⟩ : Fin S16x16x2048x64.rank) ∈ gather_S16x16x2048x64_S2064x1_S16x16x2064x64_013_2_n_n_2_1_1616164.sKept by decide)]; show 0 + 0 + b.val = b.val; omega
  | ⟨1, _⟩ => rw [dif_neg (show (⟨1, by decide⟩ : Fin S16x16x2048x64.rank) ∉ gather_S16x16x2048x64_S2064x1_S16x16x2064x64_013_2_n_n_2_1_1616164.startIndexMap by decide), dif_pos (show (⟨1, by decide⟩ : Fin S16x16x2048x64.rank) ∈ gather_S16x16x2048x64_S2064x1_S16x16x2064x64_013_2_n_n_2_1_1616164.sKept by decide)]; show 0 + 0 + h.val = h.val; omega
  | ⟨2, _⟩ =>
    rw [dif_pos (show (⟨2, by decide⟩ : Fin S16x16x2048x64.rank) ∈ gather_S16x16x2048x64_S2064x1_S16x16x2064x64_013_2_n_n_2_1_1616164.startIndexMap by decide), dif_neg (show (⟨2, by decide⟩ : Fin S16x16x2048x64.rank) ∉ gather_S16x16x2048x64_S2064x1_S16x16x2064x64_013_2_n_n_2_1_1616164.sKept by decide)]
    have hsi : GatherDims.siIdx gather_S16x16x2048x64_S2064x1_S16x16x2064x64_013_2_n_n_2_1_1616164 (ix4 b h p d) ⟨0, by decide⟩ = ix2 p 0 := by
      funext b; refine Fin.ext ?_
      match b with
      | ⟨0, _⟩ => rfl
      | ⟨1, _⟩ => rfl
    have hv : (idx (GatherDims.siIdx gather_S16x16x2048x64_S2064x1_S16x16x2064x64_013_2_n_n_2_1_1616164 (ix4 b h p d) ⟨0, by decide⟩)).toInt.toNat = n := by
      rw [hsi, hi, BitVec.toInt_eq_toNat_of_lt (by rw [BitVec.toNat_ofNat]; omega), BitVec.toNat_ofNat, Int.toNat_natCast]; omega
    show min (idx (GatherDims.siIdx gather_S16x16x2048x64_S2064x1_S16x16x2064x64_013_2_n_n_2_1_1616164 (ix4 b h p d) ⟨0, by decide⟩)).toInt.toNat (2048 - 1) + 0 + 0 = n
    rw [hv]; omega
  | ⟨3, _⟩ => rw [dif_neg (show (⟨3, by decide⟩ : Fin S16x16x2048x64.rank) ∉ gather_S16x16x2048x64_S2064x1_S16x16x2064x64_013_2_n_n_2_1_1616164.startIndexMap by decide), dif_pos (show (⟨3, by decide⟩ : Fin S16x16x2048x64.rank) ∈ gather_S16x16x2048x64_S2064x1_S16x16x2064x64_013_2_n_n_2_1_1616164.sKept by decide)]; show 0 + 0 + d.val = d.val; omega

/-- The row a place reads among the new rows. -/
theorem gatherNew_at (x : FVec Ideal S16x16x16x64 .f32) (idx : IVec S16x2064x2 32) (b h : Fin 16) (p : Fin 2064) (d : Fin 64)
    (n : ℕ) (hn : n < 16) (hb : idx (ix3 b p 0) = BitVec.ofNat 32 b.val) (hi : idx (ix3 b p 1) = BitVec.ofNat 32 n) :
    Host.gather gather_S16x16x16x64_S16x2064x2_S16x2064x16x64_23_02_n_n_02_2_116164 x idx (ix4 b p h d) = x (ix4 b h ⟨n, hn⟩ d) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  unfold GatherDims.start GatherDims.offCoord
  have hbl := b.isLt
  match a with
  | ⟨0, _⟩ =>
    rw [dif_pos (show (⟨0, by decide⟩ : Fin S16x16x16x64.rank) ∈ gather_S16x16x16x64_S16x2064x2_S16x2064x16x64_23_02_n_n_02_2_116164.startIndexMap by decide), dif_neg (show (⟨0, by decide⟩ : Fin S16x16x16x64.rank) ∉ gather_S16x16x16x64_S16x2064x2_S16x2064x16x64_23_02_n_n_02_2_116164.sKept by decide)]
    have hsi : GatherDims.siIdx gather_S16x16x16x64_S16x2064x2_S16x2064x16x64_23_02_n_n_02_2_116164 (ix4 b p h d) ⟨0, by decide⟩ = ix3 b p 0 := by
      funext b; refine Fin.ext ?_
      match b with
      | ⟨0, _⟩ => rfl
      | ⟨1, _⟩ => rfl
      | ⟨2, _⟩ => rfl
    have hv : (idx (GatherDims.siIdx gather_S16x16x16x64_S16x2064x2_S16x2064x16x64_23_02_n_n_02_2_116164 (ix4 b p h d) ⟨0, by decide⟩)).toInt.toNat = b.val := by
      rw [hsi, hb, BitVec.toInt_eq_toNat_of_lt (by rw [BitVec.toNat_ofNat]; omega), BitVec.toNat_ofNat, Int.toNat_natCast]; omega
    show min (idx (GatherDims.siIdx gather_S16x16x16x64_S16x2064x2_S16x2064x16x64_23_02_n_n_02_2_116164 (ix4 b p h d) ⟨0, by decide⟩)).toInt.toNat (16 - 1) + 0 + 0 = b.val
    rw [hv]; omega
  | ⟨1, _⟩ => rw [dif_neg (show (⟨1, by decide⟩ : Fin S16x16x16x64.rank) ∉ gather_S16x16x16x64_S16x2064x2_S16x2064x16x64_23_02_n_n_02_2_116164.startIndexMap by decide), dif_pos (show (⟨1, by decide⟩ : Fin S16x16x16x64.rank) ∈ gather_S16x16x16x64_S16x2064x2_S16x2064x16x64_23_02_n_n_02_2_116164.sKept by decide)]; show 0 + 0 + h.val = h.val; omega
  | ⟨2, _⟩ =>
    rw [dif_pos (show (⟨2, by decide⟩ : Fin S16x16x16x64.rank) ∈ gather_S16x16x16x64_S16x2064x2_S16x2064x16x64_23_02_n_n_02_2_116164.startIndexMap by decide), dif_neg (show (⟨2, by decide⟩ : Fin S16x16x16x64.rank) ∉ gather_S16x16x16x64_S16x2064x2_S16x2064x16x64_23_02_n_n_02_2_116164.sKept by decide)]
    have hsi : GatherDims.siIdx gather_S16x16x16x64_S16x2064x2_S16x2064x16x64_23_02_n_n_02_2_116164 (ix4 b p h d) ⟨1, by decide⟩ = ix3 b p 1 := by
      funext b; refine Fin.ext ?_
      match b with
      | ⟨0, _⟩ => rfl
      | ⟨1, _⟩ => rfl
      | ⟨2, _⟩ => rfl
    have hv : (idx (GatherDims.siIdx gather_S16x16x16x64_S16x2064x2_S16x2064x16x64_23_02_n_n_02_2_116164 (ix4 b p h d) ⟨1, by decide⟩)).toInt.toNat = n := by
      rw [hsi, hi, BitVec.toInt_eq_toNat_of_lt (by rw [BitVec.toNat_ofNat]; omega), BitVec.toNat_ofNat, Int.toNat_natCast]; omega
    show min (idx (GatherDims.siIdx gather_S16x16x16x64_S16x2064x2_S16x2064x16x64_23_02_n_n_02_2_116164 (ix4 b p h d) ⟨1, by decide⟩)).toInt.toNat (16 - 1) + 0 + 0 = n
    rw [hv]; omega
  | ⟨3, _⟩ => rw [dif_neg (show (⟨3, by decide⟩ : Fin S16x16x16x64.rank) ∉ gather_S16x16x16x64_S16x2064x2_S16x2064x16x64_23_02_n_n_02_2_116164.startIndexMap by decide), dif_pos (show (⟨3, by decide⟩ : Fin S16x16x16x64.rank) ∈ gather_S16x16x16x64_S16x2064x2_S16x2064x16x64_23_02_n_n_02_2_116164.sKept by decide)]; show 0 + 0 + d.val = d.val; omega

end Cert.ReferenceIdeal.Stage

end

end
-- ==== Proof.Value.RefB.lean ====
/- The past and the new rows the reference's places read, over the extended reals. -/
module

public import proofs.«01_k».proof.Proof.Value.Ref

@[expose] public section

set_option maxRecDepth 16384

noncomputable section

namespace Cert.ReferenceIdeal.Stage

open Idealize.ShloMosaic Idealize.ShloMosaic.TcCoe Idealize.SL.Sem
open Cert.ReferenceIdeal Cert.ReferenceIdeal.Gen Cert.ReferenceIdeal.Read
open Idealize.ShloMosaic.WordCmp (cmpi_slt_ofNat)

/-- The past row a place reads, for the keys. -/
theorem pastK_at (x3 : FVec Ideal S16x16x2048x64 .f32) (b h : Fin 16) (p : Fin 2064) (d : Fin 64) :
    val_main_v69 (F := Ideal) x3 (ix4 b h p d) = x3 (ix4 b h ⟨min p.val 2047, by omega⟩ d) :=
  gatherPast_at x3 _ b h p d _ _ (pastIdx_at p)

/-- The past row a place reads, for the values. -/
theorem pastV_at (x4 : FVec Ideal S16x16x2048x64 .f32) (b h : Fin 16) (p : Fin 2064) (d : Fin 64) :
    val_main_v76 (F := Ideal) x4 (ix4 b h p d) = x4 (ix4 b h ⟨min p.val 2047, by omega⟩ d) :=
  gatherPast_at x4 _ b h p d _ _ (pastIdx_at p)

/-- The new row a place at or after the past rows reads. -/
theorem newRow_at (x13 : IVec S16 32) (b : Fin 16) (p : Fin 2064) (P : ℕ) (hP : P ≤ 2048) (h13 : x13 (ix1 b) = BitVec.ofNat 32 P) (h : P ≤ p.val) :
    val_main_v97 (F := Ideal) x13 (ix2 b p) = BitVec.ofNat 32 (min (p.val - P) 15) := by
  have hp := p.isLt
  have e : val_main_v85 (F := Ideal) x13 (ix2 b p) = BitVec.ofNat 32 (min (p.val - P) 15) := by
    rw [newIdx_at, h13, subi_ofNat _ _ (by omega) h, show (0#32 : BitVec 32) = BitVec.ofNat 32 0 from rfl, maxsi_ofNat _ _ (by omega) (by omega),
      show (15#32 : BitVec 32) = BitVec.ofNat 32 15 from rfl, minsi_ofNat _ _ (by omega) (by omega), Nat.max_zero]
  unfold val_main_v97 val_main_v94 val_main_v96
  generalize val_main_v85 (F := Ideal) x13 = y at e
  pointwise [val_main_v93, val_main_v95, val_main_c_8, val_main_c_9]
  rw [e, cmpi_slt_ofNat (by omega) (by omega)]
  rfl

/-- The new key row a place at or after the past rows reads. -/
theorem newK_at (x0 : FVec Ideal S16x16x1024 .f32) (x1 x2 : FVec Ideal S1x1x16x64 .f32) (x7 : FVec Ideal S1024x1024 .f32) (x8 : FVec Ideal S1024 .f32)
    (x13 : IVec S16 32) (x15 : IVec S16x16 1) (b h : Fin 16) (p : Fin 2064) (d : Fin 64) (P : ℕ) (hP : P ≤ 2048) (h13 : x13 (ix1 b) = BitVec.ofNat 32 P) (hp : P ≤ p.val) :
    val_main_v103 (F := Ideal) x0 x1 x2 x7 x8 x13 x15 (ix4 b h p d) = val_main_v44 (F := Ideal) x0 x1 x2 x7 x8 x15 (ix4 b h ⟨min (p.val - P) 15, by omega⟩ d) := by
  have e := gatherNew_at (val_main_v44 (F := Ideal) x0 x1 x2 x7 x8 x15) (val_main_v101 (F := Ideal) x13) b h p d (min (p.val - P) 15) (by omega)
    (newIdx2_at x13 b p) ((newIdx3_at x13 b p).trans (newRow_at x13 b p P hP h13 hp))
  unfold val_main_v103 val_main_v102
  generalize Host.gather gather_S16x16x16x64_S16x2064x2_S16x2064x16x64_23_02_n_n_02_2_116164 (val_main_v44 (F := Ideal) x0 x1 x2 x7 x8 x15) (val_main_v101 (F := Ideal) x13) = y at e
  pointwise
  exact e

/-- The new value row a place at or after the past rows reads. -/
theorem newV_at (x0 : FVec Ideal S16x16x1024 .f32) (x9 : FVec Ideal S1024x1024 .f32) (x10 : FVec Ideal S1024 .f32)
    (x13 : IVec S16 32) (x15 : IVec S16x16 1) (b h : Fin 16) (p : Fin 2064) (d : Fin 64) (P : ℕ) (hP : P ≤ 2048) (h13 : x13 (ix1 b) = BitVec.ofNat 32 P) (hp : P ≤ p.val) :
    val_main_v119 (F := Ideal) x0 x9 x10 x13 x15 (ix4 b h p d) = val_main_v46 (F := Ideal) x0 x9 x10 x15 (ix4 b h ⟨min (p.val - P) 15, by omega⟩ d) := by
  have e := gatherNew_at (val_main_v46 (F := Ideal) x0 x9 x10 x15) (val_main_v117 (F := Ideal) x13) b h p d (min (p.val - P) 15) (by omega)
    (newIdx2_at x13 b p) ((newIdx3_at x13 b p).trans (newRow_at x13 b p P hP h13 hp))
  unfold val_main_v119 val_main_v118
  generalize Host.gather gather_S16x16x16x64_S16x2064x2_S16x2064x16x64_23_02_n_n_02_2_116164 (val_main_v46 (F := Ideal) x0 x9 x10 x15) (val_main_v117 (F := Ideal) x13) = y at e
  pointwise
  exact e

/-- The choice between the past row, the new row and zero, summed. -/
theorem choose_at (P C p : ℕ) (hP : P ≤ 2048) (hC : C ≤ 16) (hp : p < 2064) (x y : EReal) :
    (Scalar.select (IntOp.cmpi .slt (BitVec.ofNat 32 p) (BitVec.ofNat 32 P)) x 0
      + Scalar.select (IntOp.andi (~~~ (IntOp.cmpi .slt (BitVec.ofNat 32 p) (BitVec.ofNat 32 P))) (IntOp.cmpi .slt (BitVec.ofNat 32 p) (BitVec.ofNat 32 (P + C)))) y 0 : EReal)
      = if p < P then x else if p < P + C then y else 0 := by
  rw [cmpi_slt_ofNat (by omega) (by omega), cmpi_slt_ofNat (by omega) (by omega)]
  by_cases h1 : p < P
  · simp [h1, Scalar.select, IntOp.andi]
  · by_cases h2 : p < P + C
    · simp [h1, h2, Scalar.select, IntOp.andi]
    · simp [h1, h2, Scalar.select, IntOp.andi]

end Cert.ReferenceIdeal.Stage

end

end
-- ==== Proof.Value.RefC.lean ====
/- The reference's compacted rows, and its query, key and value rows, over the extended reals. -/
module

public import proofs.«01_k».proof.Proof.Value.RefB

@[expose] public section

set_option maxRecDepth 16384

noncomputable section

namespace Cert.ReferenceIdeal.Stage

open Idealize.ShloMosaic Idealize.ShloMosaic.TcCoe Idealize.SL.Sem
open Cert.ReferenceIdeal Cert.ReferenceIdeal.Gen Cert.ReferenceIdeal.Read
open Idealize.ShloMosaic.WordCmp (cmpi_slt_ofNat)

/-- The compacted key rows. -/
theorem rowsK_at (x0 : FVec Ideal S16x16x1024 .f32) (x1 x2 : FVec Ideal S1x1x16x64 .f32) (x3 : FVec Ideal S16x16x2048x64 .f32) (x7 : FVec Ideal S1024x1024 .f32) (x8 : FVec Ideal S1024 .f32)
    (x13 x14 : IVec S16 32) (x15 : IVec S16x16 1) (b h : Fin 16) (p : Fin 2064) (d : Fin 64) (P C : ℕ) (hP : P ≤ 2048) (hC : C ≤ 16)
    (h13 : x13 (ix1 b) = BitVec.ofNat 32 P) (h14 : x14 (ix1 b) = BitVec.ofNat 32 C) :
    val_main_v128 (F := Ideal) x0 x1 x2 x3 x7 x8 x13 x14 x15 (ix4 b h p d)
      = _root_.Cert.Value.rrow P C (fun j x => x3 (ix4 b h j x)) (fun i x => val_main_v44 (F := Ideal) x0 x1 x2 x7 x8 x15 (ix4 b h i x)) p d := by
  have e1 := pastK_at x3 b h p d
  have e2 := newK_at x0 x1 x2 x7 x8 x13 x15 b h p d P hP h13
  have e3 := fromPast_at x13 b p
  have e4 := inTotal_at x13 x14 b p
  rw [h13] at e3
  rw [h13, h14, addi_ofNat] at e4
  unfold val_main_v128 val_main_v124 val_main_v127 val_main_v122 val_main_v125 val_main_v120 val_main_v121 val_main_v60 val_main_v54
  generalize val_main_v69 (F := Ideal) x3 = y1 at e1
  generalize val_main_v103 (F := Ideal) x0 x1 x2 x7 x8 x13 x15 = y2 at e2
  generalize val_main_v53 (F := Ideal) x13 = y3 at e3
  generalize val_main_v59 (F := Ideal) x13 x14 = y4 at e4
  pointwise [val_main_v123, val_main_v126, val_main_cst, val_main_cst_14]
  rw [e3, e4]
  refine (choose_at P C p hP hC p.isLt _ _).trans ?_
  unfold _root_.Cert.Value.rrow
  split_ifs with h1 h2
  · exact e1
  · exact e2 (by omega)
  · rfl

/-- The compacted value rows. -/
theorem rowsV_at (x0 : FVec Ideal S16x16x1024 .f32) (x4 : FVec Ideal S16x16x2048x64 .f32) (x9 : FVec Ideal S1024x1024 .f32) (x10 : FVec Ideal S1024 .f32)
    (x13 x14 : IVec S16 32) (x15 : IVec S16x16 1) (b h : Fin 16) (p : Fin 2064) (d : Fin 64) (P C : ℕ) (hP : P ≤ 2048) (hC : C ≤ 16)
    (h13 : x13 (ix1 b) = BitVec.ofNat 32 P) (h14 : x14 (ix1 b) = BitVec.ofNat 32 C) :
    val_main_v135 (F := Ideal) x0 x4 x9 x10 x13 x14 x15 (ix4 b h p d)
      = _root_.Cert.Value.rrow P C (fun j x => x4 (ix4 b h j x)) (fun i x => val_main_v46 (F := Ideal) x0 x9 x10 x15 (ix4 b h i x)) p d := by
  have e1 := pastV_at x4 b h p d
  have e2 := newV_at x0 x9 x10 x13 x15 b h p d P hP h13
  have e3 := fromPast_at x13 b p
  have e4 := inTotal_at x13 x14 b p
  rw [h13] at e3
  rw [h13, h14, addi_ofNat] at e4
  unfold val_main_v135 val_main_v131 val_main_v134 val_main_v129 val_main_v132 val_main_v120 val_main_v121 val_main_v60 val_main_v54
  generalize val_main_v76 (F := Ideal) x4 = y1 at e1
  generalize val_main_v119 (F := Ideal) x0 x9 x10 x13 x15 = y2 at e2
  generalize val_main_v53 (F := Ideal) x13 = y3 at e3
  generalize val_main_v59 (F := Ideal) x13 x14 = y4 at e4
  pointwise [val_main_v130, val_main_v133, val_main_cst_15, val_main_cst_16]
  rw [e3, e4]
  refine (choose_at P C p hP hC p.isLt _ _).trans ?_
  unfold _root_.Cert.Value.rrow
  split_ifs with h1 h2
  · exact e1
  · exact e2 (by omega)
  · rfl

/-- The compacted rows depend on the new rows in use alone. -/
theorem rrow_congr (P C : ℕ) (hC : C ≤ 16) (kp : Fin 2048 → Fin 64 → EReal) (kn kn' : Fin 16 → Fin 64 → EReal)
    (h : ∀ i : Fin 16, i.val < C → ∀ x, kn i x = kn' i x) (p : Fin 2064) (d : Fin 64) :
    _root_.Cert.Value.rrow P C kp kn p d = _root_.Cert.Value.rrow P C kp kn' p d := by
  unfold _root_.Cert.Value.rrow
  by_cases h1 : p.val < P
  · rw [if_pos h1, if_pos h1]
  · rw [if_neg h1, if_neg h1]
    by_cases h2 : p.val < P + C
    · rw [if_pos h2, if_pos h2]
      exact h _ (by show min (p.val - P) 15 < C; omega) d
    · rw [if_neg h2, if_neg h2]

/-- A turned column of a new row, from the row and the column's weights. -/
def rope (x0 : FVec Ideal S16x16x1024 .f32) (x1 x2 : FVec Ideal S1x1x16x64 .f32) (w : FVec Ideal S1024x1024 .f32) (z : FVec Ideal S1024 .f32) (b h t : Fin 16) (d : Fin 64) : EReal :=
  _root_.Cert.Value.turn (fun d => _root_.Cert.Value.lin (fun k => x0 (ix3 b t k)) (fun k => w (ix2 (col h d) k)) (z (ix1 (col h d))))
    (fun d => x1 (ix4 0 0 t d)) (fun d => x2 (ix4 0 0 t d)) d

/-- A column of a new row as projected. -/
def proj (x0 : FVec Ideal S16x16x1024 .f32) (w : FVec Ideal S1024x1024 .f32) (z : FVec Ideal S1024 .f32) (b h t : Fin 16) (d : Fin 64) : EReal :=
  _root_.Cert.Value.lin (fun k => x0 (ix3 b t k)) (fun k => w (ix2 (col h d) k)) (z (ix1 (col h d)))

/-- A factor of a valid row is one. -/
theorem bit_one : (((1#1 : BitVec 1).toNat : ℝ) : EReal) = 1 := by
  show (((1 : ℕ) : ℝ) : EReal) = 1
  norm_num

/-- A factor of a row out of use is zero. -/
theorem bit_zero : (((0#1 : BitVec 1).toNat : ℝ) : EReal) = 0 := by
  show (((0 : ℕ) : ℝ) : EReal) = 0
  norm_num

/-- A valid row's query column. -/
theorem query_at (x0 : FVec Ideal S16x16x1024 .f32) (x1 x2 : FVec Ideal S1x1x16x64 .f32) (x5 : FVec Ideal S1024x1024 .f32) (x6 : FVec Ideal S1024 .f32)
    (x15 : IVec S16x16 1) (b h t : Fin 16) (d : Fin 64) (ht : x15 (ix2 b t) = 1#1) :
    val_main_v42 (F := Ideal) x0 x1 x2 x5 x6 x15 (ix4 b h t d) = rope x0 x1 x2 x5 x6 b h t d := by
  refine (congrArg₂ (fun u v : EReal => u * v) (ropeQ_at x0 x1 x2 x5 x6 b h t d) (vmQ_at x15 b h t d)).trans ?_
  rw [ht, bit_one, mul_one]
  unfold rope
  exact congrArg (fun f => _root_.Cert.Value.turn f (fun d => x1 (ix4 0 0 t d)) (fun d => x2 (ix4 0 0 t d)) d) (funext fun d => projQ_at x0 x5 x6 b h t d)

/-- A valid row's key column. -/
theorem key_at (x0 : FVec Ideal S16x16x1024 .f32) (x1 x2 : FVec Ideal S1x1x16x64 .f32) (x7 : FVec Ideal S1024x1024 .f32) (x8 : FVec Ideal S1024 .f32)
    (x15 : IVec S16x16 1) (b h t : Fin 16) (d : Fin 64) (ht : x15 (ix2 b t) = 1#1) :
    val_main_v44 (F := Ideal) x0 x1 x2 x7 x8 x15 (ix4 b h t d) = rope x0 x1 x2 x7 x8 b h t d := by
  refine (congrArg₂ (fun u v : EReal => u * v) (ropeK_at x0 x1 x2 x7 x8 b h t d) (vmQ_at x15 b h t d)).trans ?_
  rw [ht, bit_one, mul_one]
  unfold rope
  exact congrArg (fun f => _root_.Cert.Value.turn f (fun d => x1 (ix4 0 0 t d)) (fun d => x2 (ix4 0 0 t d)) d) (funext fun d => projK_at x0 x7 x8 b h t d)

/-- A valid row's value column. -/
theorem value_at (x0 : FVec Ideal S16x16x1024 .f32) (x9 : FVec Ideal S1024x1024 .f32) (x10 : FVec Ideal S1024 .f32)
    (x15 : IVec S16x16 1) (b h t : Fin 16) (d : Fin 64) (ht : x15 (ix2 b t) = 1#1) :
    val_main_v46 (F := Ideal) x0 x9 x10 x15 (ix4 b h t d) = proj x0 x9 x10 b h t d := by
  refine (congrArg₂ (fun u v : EReal => u * v) (projV_at x0 x9 x10 b h t d) (vmQ_at x15 b h t d)).trans ?_
  rw [ht, bit_one, mul_one]
  rfl

end Cert.ReferenceIdeal.Stage

end

end
-- ==== Proof.Value.RefD.lean ====
/- The reductions and products of the reference's attention at an index, over free arrays. -/
module

public import proofs.«01_k».proof.Proof.Value.Ref

@[expose] public section

set_option maxRecDepth 16384

noncomputable section

namespace Cert.ReferenceIdeal.Stage

open Idealize.ShloMosaic Idealize.ShloMosaic.TcCoe Idealize.SL.Sem
open Cert.ReferenceIdeal Cert.ReferenceIdeal.Gen Cert.ReferenceIdeal.Read
open Idealize.ShloMosaic.WordCmp (cmpi_slt_ofNat)

/-- The largest entry along the last axis. -/
theorem maxRow_at (s : FVec Ideal S16x16x16x2064 .f32) (b h t : Fin 16) :
    Host.reduce FloatOps.maximumf s (val_main_cst_19 (F := Ideal)) reducesTo_S16x16x16x2064_S16x16x16_d3 h_S_ (ix3 b h t)
      = Finset.univ.fold max (Ideal.ofBits FTy.f32 4286578688#32) (fun p : Fin 2064 => s (ix4 b h t p)) := by
  pointwise [val_main_cst_19]

/-- The running maximum's lower bound changes nothing. -/
theorem maxTop_at (y : FVec Ideal S16x16x16 .f32) (b h t : Fin 16) : maximumf (val_main_v150 (F := Ideal)) y (ix3 b h t) = max (⊥ : EReal) (y (ix3 b h t)) := by
  pointwise [val_main_v150, val_main_cst_20]
  exact congrArg (fun z : EReal => max z (y (ix3 b h t))) rfl

/-- The exponential of an entry minus its row's maximum. -/
theorem expRow_at (s : FVec Ideal S16x16x16x2064 .f32) (m : FVec Ideal S16x16x16 .f32) (b h t : Fin 16) (p : Fin 2064) :
    Host.exp (subf s (broadcastInDim S16x16x16x2064 ![0, 1, 2, 3] bcast_S16x16x16x1_S16x16x16x2064_0_1_2_3 (broadcastInDim S16x16x16x1 ![0, 1, 2] bcast_S16x16x16_S16x16x16x1_0_1_2 m))) (ix4 b h t p)
      = Ideal.exp (s (ix4 b h t p) - m (ix3 b h t)) := by
  pointwise

/-- The sum along the last axis. -/
theorem sumRow_at (s : FVec Ideal S16x16x16x2064 .f32) (b h t : Fin 16) :
    Host.reduceAdd s (val_main_cst_21 (F := Ideal)) reducesTo_S16x16x16x2064_S16x16x16_d3 h_S_ (ix3 b h t) = ∑ p : Fin 2064, s (ix4 b h t p) := by
  pointwise [val_main_cst_21]

/-- A row divided by its total. -/
theorem divRow_at (s : FVec Ideal S16x16x16x2064 .f32) (m : FVec Ideal S16x16x16 .f32) (b h t : Fin 16) (p : Fin 2064) :
    Host.divf s (broadcastInDim S16x16x16x2064 ![0, 1, 2, 3] bcast_S16x16x16x1_S16x16x16x2064_0_1_2_3 (broadcastInDim S16x16x16x1 ![0, 1, 2] bcast_S16x16x16_S16x16x16x1_0_1_2 m)) (ix4 b h t p)
      = Ideal.div (s (ix4 b h t p)) (m (ix3 b h t)) := by
  pointwise

/-- The rows of one head weighted by its probabilities. -/
theorem mixRow_at (s : FVec Ideal S16x16x16x2064 .f32) (y : FVec Ideal S16x16x2064x64 .f32) (b h t : Fin 16) (d : Fin 64) :
    Host.dotGeneral dot_S16x16x16x2064_S16x16x2064x64_S16x16x16x64_3_2_2_3_01_01 none s y (ix4 b h t d) = ∑ p, s (ix4 b h t p) * y (ix4 b h p d) := by
  pointwise

/-- The queries against the rows of one head. -/
theorem dotRow_at (q : FVec Ideal S16x16x16x64 .f32) (y : FVec Ideal S16x16x2064x64 .f32) (b h t : Fin 16) (p : Fin 2064) :
    Host.dotGeneral dot_S16x16x16x64_S16x16x2064x64_S16x16x16x2064_3_3_2_2_01_01 none q y (ix4 b h t p) = ∑ x, q (ix4 b h t x) * y (ix4 b h p x) := by
  pointwise

end Cert.ReferenceIdeal.Stage

end

end
-- ==== Proof.Value.RefE.lean ====
/- The reference's scores, shares and mixed values at an index, over the extended reals. -/
module

public import proofs.«01_k».proof.Proof.Value.RefC
public import proofs.«01_k».proof.Proof.Value.RefD
public import proofs.«01_k».proof.Proof.Value.Heads

@[expose] public section

set_option maxRecDepth 16384

noncomputable section

namespace Cert.ReferenceIdeal.Stage

open Idealize.ShloMosaic Idealize.ShloMosaic.TcCoe Idealize.SL.Sem
open Cert.ReferenceIdeal Cert.ReferenceIdeal.Gen Cert.ReferenceIdeal.Read
open Idealize.ShloMosaic.WordCmp (cmpi_slt_ofNat)

/-- A row's shares, as the definition of the softmax gives them. -/
theorem soft_at (x0 : FVec Ideal S16x16x1024 .f32) (x1 x2 : FVec Ideal S1x1x16x64 .f32) (x3 : FVec Ideal S16x16x2048x64 .f32) (x5 : FVec Ideal S1024x1024 .f32) (x6 : FVec Ideal S1024 .f32) (x7 : FVec Ideal S1024x1024 .f32) (x8 : FVec Ideal S1024 .f32)
    (x13 x14 : IVec S16 32) (x15 : IVec S16x16 1) (b h t : Fin 16) (s : Fin 2064 → EReal)
    (hs : ∀ p : Fin 2064, val_main_v148 (F := Ideal) x0 x1 x2 x3 x5 x6 x7 x8 x13 x14 x15 (ix4 b h t p) = s p) (p : Fin 2064) :
    val_main_v159 (F := Ideal) x0 x1 x2 x3 x5 x6 x7 x8 x13 x14 x15 (ix4 b h t p) = Ideal.div (_root_.Cert.Value.weight s p) (∑ p, _root_.Cert.Value.weight s p) := by
  have em : val_main_v151 (F := Ideal) x0 x1 x2 x3 x5 x6 x7 x8 x13 x14 x15 (ix3 b h t) = Finset.univ.fold max ⊥ s := by
    refine (maxTop_at (val_main_v149 (F := Ideal) x0 x1 x2 x3 x5 x6 x7 x8 x13 x14 x15) b h t).trans ?_
    refine (congrArg (fun z : EReal => max ⊥ z) (maxRow_at (val_main_v148 (F := Ideal) x0 x1 x2 x3 x5 x6 x7 x8 x13 x14 x15) b h t)).trans ?_
    rw [Cert.KernelIdeal.Run.ofBits_ninf]
    refine (max_eq_right bot_le).trans ?_
    exact congrArg (fun f : Fin 2064 → EReal => Finset.univ.fold max ⊥ f) (funext hs)
  have ee : ∀ p, val_main_v155 (F := Ideal) x0 x1 x2 x3 x5 x6 x7 x8 x13 x14 x15 (ix4 b h t p) = _root_.Cert.Value.weight s p := fun p =>
    (expRow_at (val_main_v148 (F := Ideal) x0 x1 x2 x3 x5 x6 x7 x8 x13 x14 x15) (val_main_v151 (F := Ideal) x0 x1 x2 x3 x5 x6 x7 x8 x13 x14 x15) b h t p).trans
      (congrArg₂ (fun u v : EReal => Ideal.exp (u - v)) (hs p) em)
  have et : val_main_v156 (F := Ideal) x0 x1 x2 x3 x5 x6 x7 x8 x13 x14 x15 (ix3 b h t) = ∑ p, _root_.Cert.Value.weight s p :=
    (sumRow_at (val_main_v155 (F := Ideal) x0 x1 x2 x3 x5 x6 x7 x8 x13 x14 x15) b h t).trans (Finset.sum_congr rfl fun p _ => ee p)
  exact (divRow_at (val_main_v155 (F := Ideal) x0 x1 x2 x3 x5 x6 x7 x8 x13 x14 x15) (val_main_v156 (F := Ideal) x0 x1 x2 x3 x5 x6 x7 x8 x13 x14 x15) b h t p).trans
    (congrArg₂ (fun u v : EReal => Ideal.div u v) (ee p) et)

/-- The divisor of the scores is eight. -/
theorem root_at (i : S16x16x16x2064.Idx) : val_main_v143 (F := Ideal) i = ((8 : ℝ) : EReal) := by
  refine (val_main_v143_apply (F := Ideal) i).trans ?_
  show Ideal.sqrt (Ideal.ofBits FTy.f32 0x42800000#32) = _
  rw [Cert.KernelIdeal.Run.ofBits_64]
  show (if (64 : ℝ) < 0 then (⊥ : EReal) else ((Real.sqrt 64 : ℝ) : EReal)) = _
  rw [if_neg (by norm_num), show (64 : ℝ) = 8 ^ 2 by norm_num, Real.sqrt_sq (by norm_num)]

/-- The places in use of a batch's row. -/
theorem used_at (x13 x14 : IVec S16 32) (b h t : Fin 16) (p : Fin 2064) :
    val_main_v146 (F := Ideal) x13 x14 (ix4 b h t p) = IntOp.cmpi .slt (BitVec.ofNat 32 p.val) (IntOp.addi (x13 (ix1 b)) (x14 (ix1 b))) := by
  pointwise [val_main_v146, val_main_v145, val_main_v140, val_main_v139, val_main_v138, val_main_v137, val_main_v136, val_main_v48, val_main_v47]

/-- The value put at the places out of use. -/
theorem masked_at (i : S16x16x16x2064.Idx) : val_main_v147 (F := Ideal) i = (⊥ : EReal) :=
  (val_main_v147_apply (F := Ideal) i).trans Cert.KernelIdeal.Run.ofBits_ninf

/-- A valid row's scores. -/
theorem score_at (x0 : FVec Ideal S16x16x1024 .f32) (x1 x2 : FVec Ideal S1x1x16x64 .f32) (x3 : FVec Ideal S16x16x2048x64 .f32) (x5 : FVec Ideal S1024x1024 .f32) (x6 : FVec Ideal S1024 .f32) (x7 : FVec Ideal S1024x1024 .f32) (x8 : FVec Ideal S1024 .f32)
    (x13 x14 : IVec S16 32) (x15 : IVec S16x16 1) (b h t : Fin 16) (p : Fin 2064) (P C : ℕ) (hP : P ≤ 2048) (hC : C ≤ 16)
    (h13 : x13 (ix1 b) = BitVec.ofNat 32 P) (h14 : x14 (ix1 b) = BitVec.ofNat 32 C) (hv : ∀ i : Fin 16, i.val < C → x15 (ix2 b i) = 1#1) (ht : t.val < C) :
    val_main_v148 (F := Ideal) x0 x1 x2 x3 x5 x6 x7 x8 x13 x14 x15 (ix4 b h t p)
      = _root_.Cert.Value.rscore P C (fun x => rope x0 x1 x2 x5 x6 b h t x) (fun j x => x3 (ix4 b h j x)) (fun i x => rope x0 x1 x2 x7 x8 b h i x) p := by
  have hp := p.isLt
  have eu := used_at x13 x14 b h t p
  rw [h13, h14, addi_ofNat, cmpi_slt_ofNat (by omega) (by omega)] at eu
  have es : val_main_v144 (F := Ideal) x0 x1 x2 x3 x5 x6 x7 x8 x13 x14 x15 (ix4 b h t p)
      = Ideal.div (∑ x, rope x0 x1 x2 x5 x6 b h t x * _root_.Cert.Value.rrow P C (fun j x => x3 (ix4 b h j x)) (fun i x => rope x0 x1 x2 x7 x8 b h i x) p x) ((8 : ℝ) : EReal) := by
    refine congrArg₂ (fun u v : EReal => Ideal.div u v) ((dotRow_at _ _ b h t p).trans (Finset.sum_congr rfl fun x _ => ?_)) (root_at _)
    refine congrArg₂ (fun u v : EReal => u * v) (query_at x0 x1 x2 x5 x6 x15 b h t x (hv t ht)) ((rowsK_at x0 x1 x2 x3 x7 x8 x13 x14 x15 b h p x P C hP hC h13 h14).trans ?_)
    exact rrow_congr P C hC _ _ _ (fun i hi x => key_at x0 x1 x2 x7 x8 x15 b h i x (hv i hi)) p x
  refine (congr (congrArg₂ (fun (c : BitVec 1) (u v : EReal) => Scalar.select c u v) eu es) (masked_at _)).trans ?_
  unfold _root_.Cert.Value.rscore
  by_cases hc : p.val < P + C
  · simp [hc, Scalar.select]
  · simp [hc, Scalar.select]

/-- A valid row's mix of the values, head by head. -/
theorem mix_at (x0 : FVec Ideal S16x16x1024 .f32) (x1 x2 : FVec Ideal S1x1x16x64 .f32) (x3 x4 : FVec Ideal S16x16x2048x64 .f32) (x5 : FVec Ideal S1024x1024 .f32) (x6 : FVec Ideal S1024 .f32) (x7 : FVec Ideal S1024x1024 .f32) (x8 : FVec Ideal S1024 .f32) (x9 : FVec Ideal S1024x1024 .f32) (x10 : FVec Ideal S1024 .f32)
    (x13 x14 : IVec S16 32) (x15 : IVec S16x16 1) (b h t : Fin 16) (d : Fin 64) (P C : ℕ) (hP : P ≤ 2048) (hC : C ≤ 16)
    (h13 : x13 (ix1 b) = BitVec.ofNat 32 P) (h14 : x14 (ix1 b) = BitVec.ofNat 32 C) (hv : ∀ i : Fin 16, i.val < C → x15 (ix2 b i) = 1#1) (ht : t.val < C) :
    val_main_v160 (F := Ideal) x0 x1 x2 x3 x4 x5 x6 x7 x8 x9 x10 x13 x14 x15 (ix4 b h t d)
      = _root_.Cert.Value.rmix P C (fun x => rope x0 x1 x2 x5 x6 b h t x) (fun j x => x3 (ix4 b h j x)) (fun j x => x4 (ix4 b h j x))
          (fun i x => rope x0 x1 x2 x7 x8 b h i x) (fun i x => proj x0 x9 x10 b h i x) d := by
  refine (mixRow_at _ _ b h t d).trans (Finset.sum_congr rfl fun p _ => ?_)
  refine congrArg₂ (fun u v : EReal => u * v)
    (soft_at x0 x1 x2 x3 x5 x6 x7 x8 x13 x14 x15 b h t _ (fun p => score_at x0 x1 x2 x3 x5 x6 x7 x8 x13 x14 x15 b h t p P C hP hC h13 h14 hv ht) p)
    ((rowsV_at x0 x4 x9 x10 x13 x14 x15 b h p d P C hP hC h13 h14).trans ?_)
  exact rrow_congr P C hC _ _ _ (fun i hi x => value_at x0 x9 x10 x15 b h i x (hv i hi)) p d

end Cert.ReferenceIdeal.Stage

end

end
-- ==== Proof.Value.RefF.lean ====
/- The reference's result at an index, over the extended reals. -/
module

public import proofs.«01_k».proof.Proof.Value.RefE

@[expose] public section

set_option maxRecDepth 16384

noncomputable section

namespace Cert.ReferenceIdeal.Stage

open Idealize.ShloMosaic Idealize.ShloMosaic.TcCoe Idealize.SL.Sem
open Cert.ReferenceIdeal Cert.ReferenceIdeal.Gen Cert.ReferenceIdeal.Read
open Idealize.ShloMosaic.WordCmp (cmpi_slt_ofNat)

/-- The heads laid side by side. -/
theorem flat_at (x0 : FVec Ideal S16x16x1024 .f32) (x1 x2 : FVec Ideal S1x1x16x64 .f32) (x3 x4 : FVec Ideal S16x16x2048x64 .f32) (x5 : FVec Ideal S1024x1024 .f32) (x6 : FVec Ideal S1024 .f32) (x7 : FVec Ideal S1024x1024 .f32) (x8 : FVec Ideal S1024 .f32)
    (x9 : FVec Ideal S1024x1024 .f32) (x10 : FVec Ideal S1024 .f32) (x13 x14 : IVec S16 32) (x15 : IVec S16x16 1) (b t : Fin 16) (k : Fin 1024) :
    val_main_v162 (F := Ideal) x0 x1 x2 x3 x4 x5 x6 x7 x8 x9 x10 x13 x14 x15 (ix3 b t k)
      = val_main_v160 (F := Ideal) x0 x1 x2 x3 x4 x5 x6 x7 x8 x9 x10 x13 x14 x15 (ix4 b ⟨k.val / 64, by omega⟩ t ⟨k.val % 64, by omega⟩) := by
  unfold val_main_v162 val_main_v161
  generalize val_main_v160 (F := Ideal) x0 x1 x2 x3 x4 x5 x6 x7 x8 x9 x10 x13 x14 x15 = y
  pointwise

/-- A row projected to the output's columns. -/
theorem outRow_at (y : FVec Ideal S16x16x1024 .f32) (x11 : FVec Ideal S1024x1024 .f32) (b t : Fin 16) (e : Fin 1024) :
    Host.dotGeneral (φ₁ := .f32) (φ₂ := .f32) dot_S16x16x1024_S1024x1024_S16x16x1024_2_0_01_1_n_n none y (val_main_v163 (F := Ideal) x11) (ix3 b t e) = ∑ k, y (ix3 b t k) * x11 (ix2 e k) := by
  pointwise [val_main_v163]

/-- The output's bias at a place. -/
theorem outBias_at (x12 : FVec Ideal S1024 .f32) (b t : Fin 16) (e : Fin 1024) : val_main_v166 (F := Ideal) x12 (ix3 b t e) = x12 (ix1 e) := by
  pointwise [val_main_v165, val_main_v166]

/-- The reference's result at a place: a valid row's mixed heads projected, zero on the rows out of use. -/
theorem result_at (x0 : FVec Ideal S16x16x1024 .f32) (x1 x2 : FVec Ideal S1x1x16x64 .f32) (x3 x4 : FVec Ideal S16x16x2048x64 .f32) (x5 : FVec Ideal S1024x1024 .f32) (x6 : FVec Ideal S1024 .f32) (x7 : FVec Ideal S1024x1024 .f32) (x8 : FVec Ideal S1024 .f32)
    (x9 : FVec Ideal S1024x1024 .f32) (x10 : FVec Ideal S1024 .f32) (x11 : FVec Ideal S1024x1024 .f32) (x12 : FVec Ideal S1024 .f32) (x13 x14 : IVec S16 32) (x15 : IVec S16x16 1) (b t : Fin 16) (e : Fin 1024) (P C : ℕ) (hP : P ≤ 2048) (hC : C ≤ 16)
    (h13 : x13 (ix1 b) = BitVec.ofNat 32 P) (h14 : x14 (ix1 b) = BitVec.ofNat 32 C) (hv : ∀ i : Fin 16, i.val < C → x15 (ix2 b i) = 1#1) (hn : ∀ i : Fin 16, ¬ i.val < C → x15 (ix2 b i) = 0#1) :
    val_main_v171 (F := Ideal) x0 x1 x2 x3 x4 x5 x6 x7 x8 x9 x10 x11 x12 x13 x14 x15 (ix3 b t e) = if t.val < C then
      ∑ k : Fin 1024, _root_.Cert.Value.rmix P C (fun x => rope x0 x1 x2 x5 x6 b ⟨k.val / 64, by omega⟩ t x) (fun j x => x3 (ix4 b ⟨k.val / 64, by omega⟩ j x))
          (fun j x => x4 (ix4 b ⟨k.val / 64, by omega⟩ j x)) (fun i x => rope x0 x1 x2 x7 x8 b ⟨k.val / 64, by omega⟩ i x)
          (fun i x => proj x0 x9 x10 b ⟨k.val / 64, by omega⟩ i x) ⟨k.val % 64, by omega⟩ * x11 (ix2 e k) + x12 (ix1 e) else 0 := by
  by_cases ht : t.val < C
  · rw [if_pos ht]
    refine (congrArg₂ (fun u v : EReal => u * v) rfl ((vmO_at x15 b t e).trans ((congrArg (fun w : BitVec 1 => (((w.toNat : ℝ)) : EReal)) (hv t ht)).trans bit_one))).trans ?_
    refine (mul_one (M := EReal) _).trans ?_
    refine congrArg₂ (fun u v : EReal => u + v) ((outRow_at _ x11 b t e).trans (Finset.sum_congr rfl fun k _ => ?_)) (outBias_at x12 b t e)
    refine congrArg (fun u : EReal => u * x11 (ix2 e k)) ((flat_at x0 x1 x2 x3 x4 x5 x6 x7 x8 x9 x10 x13 x14 x15 b t k).trans ?_)
    exact mix_at x0 x1 x2 x3 x4 x5 x6 x7 x8 x9 x10 x13 x14 x15 b _ t _ P C hP hC h13 h14 hv ht
  · rw [if_neg ht]
    refine (congrArg₂ (fun u v : EReal => u * v) rfl ((vmO_at x15 b t e).trans ((congrArg (fun w : BitVec 1 => (((w.toNat : ℝ)) : EReal)) (hn t ht)).trans bit_zero))).trans ?_
    exact mul_zero (M₀ := EReal) _

end Cert.ReferenceIdeal.Stage

end

end
-- ==== Proof.Value.Final.lean ====
/- The idealized kernel's result is the reference's, over the extended reals, where the precondition holds. -/
module

public import proofs.«01_k».proof.Proof.Value.Kern
public import proofs.«01_k».proof.Proof.Value.Pre
public import proofs.«01_k».proof.Proof.Value.RefF

@[expose] public section

set_option maxRecDepth 16384

noncomputable section

namespace Cert.KernelIdeal.Run

open Idealize.ShloMosaic Idealize.ShloMosaic.TcCoe Idealize.SL.Sem
open Cert.KernelIdeal Cert.KernelIdeal.Gen
open Idealize.ShloMosaic.WordCmp (cmpi_slt_ofNat)

variable (m : (ℓ : Loc nD τ sig) → Buf (Elt Ideal) ℓ)

/-- The reference's result over the kernel's arguments. -/
abbrev refRes (c : Dev nD) : FVec Ideal S16x16x1024 .f32 :=
  Cert.ReferenceIdeal.Read.val_main_v171 (F := Ideal) (A0 m c) (A1 m c) (A2 m c) (A3 m c) (A4 m c) (A5 m c) (A6 m c) (A7 m c) (A8 m c) (A9 m c) (A10 m c) (A11 m c) (A12 m c) (A13 m c) (A14 m c) (A15 m c)

/-- What the precondition says of the kernel's arguments. -/
abbrev Known (c : Dev nD) : Prop := Cert.Value.Facts (A0 m c) (A1 m c) (A2 m c) (A3 m c) (A5 m c) (A6 m c) (A7 m c) (A8 m c) (A13 m c) (A14 m c) (A15 m c)

/-- Every query column is a real. -/
theorem qrow_real (c : Dev nD) (f : Known m c) (b t h : Fin 16) (d : Fin 64) : Cert.Value.IsReal (qrow m c b t h d) :=
  Cert.Value.turn_real _ _ _ d (fun d => Cert.Value.lin_real _ _ _ (fun i => f.real0 _) (fun i => f.real5 _) (f.real6 _)) (fun d => f.real1 _) (fun d => f.real2 _)

/-- Every new key column is a real. -/
theorem krow_real (c : Dev nD) (f : Known m c) (b t h : Fin 16) (d : Fin 64) : Cert.Value.IsReal (krow m c b t h d) :=
  Cert.Value.turn_real _ _ _ d (fun d => Cert.Value.lin_real _ _ _ (fun i => f.real0 _) (fun i => f.real7 _) (f.real8 _)) (fun d => f.real1 _) (fun d => f.real2 _)

/-- The kernel's mix of a new row is the definition's. -/
theorem mixed_eq (c : Dev nD) (f : Known m c) (P C : ℕ) (hP : P ≤ 2048) (hC : C ≤ 16) (hC1 : 1 ≤ C) (b t h : Fin 16) (d : Fin 64) :
    mixed m P C c b t h d = Cert.Value.rmix P C (fun x => qrow m c b t h x) (fun j x => A3 m c (ix4 b h j x)) (fun j x => A4 m c (ix4 b h j x))
      (fun i x => krow m c b i h x) (fun i x => vlin m c b i h x) d :=
  Cert.Value.kmix_eq P C hP hC hC1 _ _ _ _ _ d (fun x => qrow_real m c f b t h x) (fun j x => f.real3 _) (fun i x => krow_real m c f b i h x)

/-- The reference's result is the kernel's. -/
theorem refRes_eq (c : Dev nD) (f : Known m c) (P C : Fin 16 → ℕ) (hP : ∀ b, P b ≤ 2048) (hC1 : ∀ b, 1 ≤ C b) (hC : ∀ b, C b ≤ 16)
    (h13 : ∀ b, A13 m c (Idealize.ShloMosaic.ix1 b) = BitVec.ofNat 32 (P b)) (h14 : ∀ b, A14 m c (Idealize.ShloMosaic.ix1 b) = BitVec.ofNat 32 (C b)) :
    refRes m c = res m P C c := by
  have hv : ∀ b i : Fin 16, i.val < C b → A15 m c (ix2 b i) = 1#1 := fun b i hi => by
    have e := f.mask b i
    have hc := hC b
    rw [h14 b, cmpi_slt_ofNat (by omega) (by omega)] at e
    rw [e]
    simp [hi]
  have hn : ∀ b i : Fin 16, ¬ i.val < C b → A15 m c (ix2 b i) = 0#1 := fun b i hi => by
    have e := f.mask b i
    have hc := hC b
    rw [h14 b, cmpi_slt_ofNat (by omega) (by omega)] at e
    rw [e]
    simp [hi]
  funext i
  obtain ⟨b, t, e, rfl⟩ : ∃ (b t : Fin 16) (e : Fin 1024), i = ix3 b t e := ⟨i 0, i 1, i 2, eq_ix3 i⟩
  refine (Cert.ReferenceIdeal.Stage.result_at (A0 m c) (A1 m c) (A2 m c) (A3 m c) (A4 m c) (A5 m c) (A6 m c) (A7 m c) (A8 m c) (A9 m c) (A10 m c) (A11 m c) (A12 m c)
    (A13 m c) (A14 m c) (A15 m c) b t e (P b) (C b) (hP b) (hC b) (h13 b) (h14 b) (hv b) (hn b)).trans ?_
  show _ = resAt m P C c b t e
  unfold resAt
  by_cases ht : t.val < C b
  · rw [if_pos ht, if_pos ht]
    refine congrArg (fun u : EReal => u + A12 m c (Idealize.ShloMosaic.ix1 e)) (Finset.sum_congr rfl fun k _ => ?_)
    exact congrArg (fun u : EReal => u * A11 m c (ix2 e k)) (mixed_eq m c f (P b) (C b) (hP b) (hC b) (hC1 b) b t (hd k) (lo k)).symm
  · rw [if_neg ht, if_neg ht]

/-- The kernel's result is the reference's over the same arguments. -/
theorem B4_ref (c : Dev nD) (f : Known m c) : (B4 m c (Proc.devRef .tc main_v26) : FVec Ideal S16x16x1024 .f32) = refRes m c := by
  choose P hP h13 using f.past
  choose C hC1 hC h14 using f.count
  exact (B4_v26 m P C hP hC c h13 h14).trans (refRes_eq m c f P C hP hC1 hC h13 h14).symm

end Cert.KernelIdeal.Run

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.BitsRun.Run
public import proofs.«01_k».proof.Proof.IdealRun.Run
public import proofs.«01_k».proof.Proof.Gen.Pre_pre
public import proofs.«01_k».proof.Proof.Gen.ReferenceIdeal.Read
public import proofs.«01_k».proof.Proof.Value.Final
public import Idealize.ShloMosaic.Adequacy
public import Idealize.ShloMosaic.Init

@[expose] public section

noncomputable section

namespace Cert.Proof

open Idealize.ShloMosaic Idealize.SL.Sem Cert.Kernel

/-- The kernel as printed runs to the end, leaves its arguments as they were and every semaphore at zero. -/
theorem frame_kernel : Cert.quiescent_Kernel := fun m g _ => Cert.Kernel.Run.frame m g

/-- The idealized kernel runs to the end, leaves its arguments as they were and every semaphore at zero. -/
theorem frame_ideal : Cert.quiescent_KernelIdeal := fun m g _ => Cert.KernelIdeal.Run.frame m g

/-- The reference runs to the end and leaves its arguments as they were; it has no semaphores. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- The idealized kernel differs from the printed one in the mask literal alone, read as the named constant. -/
theorem named_mask : Cert.preserves_Kernel_KernelIdeal :=
  IdealRules.named_const.statement Cert.KernelIdeal.κ "mask" .f32 0xF149F2CA#32 ⊥ rfl

/-- The idealized kernel, where the precondition holds, runs to the end and leaves its arguments as they were. -/
theorem frame_ideal_pre : Cert.quiescent_KernelIdeal_pre_pre := fun m g _ => Cert.KernelIdeal.Run.frame m g

/-- The reference, where the precondition holds, runs to the end and leaves its arguments as they were. -/
theorem frame_reference_pre : Cert.quiescent_ReferenceIdeal_pre_pre := fun m g _ => frame_reference m g trivial

/-- The precondition's facts of the arguments the idealized kernel is launched with. -/
theorem known (m : (ℓ : Loc Cert.KernelIdeal.nD Cert.KernelIdeal.τ Cert.KernelIdeal.sig) → Buf (Elt Ideal) ℓ) (h : Cert.Pre_KernelIdeal_pre m)
    (c : Dev Cert.KernelIdeal.nD) : Cert.KernelIdeal.Run.Known m c :=
  Cert.Value.facts_of_pre _ _ _ _ _ _ _ _ _ _ _ _ _ _ _ _ (h c)

/-- The reference's result depends on its arguments alone. -/
theorem stage_congr {x0 y0 : FVec Ideal Cert.ReferenceIdeal.S16x16x1024 .f32} {x1 y1 : FVec Ideal Cert.ReferenceIdeal.S1x1x16x64 .f32} {x2 y2 : FVec Ideal Cert.ReferenceIdeal.S1x1x16x64 .f32} {x3 y3 : FVec Ideal Cert.ReferenceIdeal.S16x16x2048x64 .f32} {x4 y4 : FVec Ideal Cert.ReferenceIdeal.S16x16x2048x64 .f32} {x5 y5 : FVec Ideal Cert.ReferenceIdeal.S1024x1024 .f32} {x6 y6 : FVec Ideal Cert.ReferenceIdeal.S1024 .f32} {x7 y7 : FVec Ideal Cert.ReferenceIdeal.S1024x1024 .f32} {x8 y8 : FVec Ideal Cert.ReferenceIdeal.S1024 .f32} {x9 y9 : FVec Ideal Cert.ReferenceIdeal.S1024x1024 .f32} {x10 y10 : FVec Ideal Cert.ReferenceIdeal.S1024 .f32} {x11 y11 : FVec Ideal Cert.ReferenceIdeal.S1024x1024 .f32} {x12 y12 : FVec Ideal Cert.ReferenceIdeal.S1024 .f32} {x13 y13 : IVec Cert.ReferenceIdeal.S16 32} {x14 y14 : IVec Cert.ReferenceIdeal.S16 32} {x15 y15 : IVec Cert.ReferenceIdeal.S16x16 1}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) :
    Cert.ReferenceIdeal.Read.val_main_v171 (F := Ideal) x0 x1 x2 x3 x4 x5 x6 x7 x8 x9 x10 x11 x12 x13 x14 x15 = Cert.ReferenceIdeal.Read.val_main_v171 (F := Ideal) y0 y1 y2 y3 y4 y5 y6 y7 y8 y9 y10 y11 y12 y13 y14 y15 := by
  subst e0 e1 e2 e3 e4 e5 e6 e7 e8 e9 e10 e11 e12 e13 e14 e15
  rfl

/-- The idealized kernel and the reference, launched on the same arguments, end with the same result. -/
theorem same_value : Cert.algebraic_KernelIdeal_ReferenceIdeal_pre_pre := fun m g m' g' hpre hargs =>
  ⟨fun c => Cert.KernelIdeal.Run.refRes m c,
    (θ_run Cert.KernelIdeal.defs _ _).mono (fun _ h c =>
      ⟨((h.1 c _ (Cert.KernelIdeal.Run.mem_uc Cert.KernelIdeal.main_v26 (by decide))).trans (Cert.KernelIdeal.Run.B4_ref m c (known m hpre c))),
        (h.1 c _ (Cert.KernelIdeal.Run.mem_uc Cert.KernelIdeal.main_arg0 (by decide))).trans (Cert.KernelIdeal.Run.B4_args m c Cert.KernelIdeal.main_arg0 (by decide)),
        (h.1 c _ (Cert.KernelIdeal.Run.mem_uc Cert.KernelIdeal.main_arg1 (by decide))).trans (Cert.KernelIdeal.Run.B4_args m c Cert.KernelIdeal.main_arg1 (by decide)),
        (h.1 c _ (Cert.KernelIdeal.Run.mem_uc Cert.KernelIdeal.main_arg2 (by decide))).trans (Cert.KernelIdeal.Run.B4_args m c Cert.KernelIdeal.main_arg2 (by decide)),
        (h.1 c _ (Cert.KernelIdeal.Run.mem_uc Cert.KernelIdeal.main_arg3 (by decide))).trans (Cert.KernelIdeal.Run.B4_args m c Cert.KernelIdeal.main_arg3 (by decide)),
        (h.1 c _ (Cert.KernelIdeal.Run.mem_uc Cert.KernelIdeal.main_arg4 (by decide))).trans (Cert.KernelIdeal.Run.B4_args m c Cert.KernelIdeal.main_arg4 (by decide)),
        (h.1 c _ (Cert.KernelIdeal.Run.mem_uc Cert.KernelIdeal.main_arg5 (by decide))).trans (Cert.KernelIdeal.Run.B4_args m c Cert.KernelIdeal.main_arg5 (by decide)),
        (h.1 c _ (Cert.KernelIdeal.Run.mem_uc Cert.KernelIdeal.main_arg6 (by decide))).trans (Cert.KernelIdeal.Run.B4_args m c Cert.KernelIdeal.main_arg6 (by decide)),
        (h.1 c _ (Cert.KernelIdeal.Run.mem_uc Cert.KernelIdeal.main_arg7 (by decide))).trans (Cert.KernelIdeal.Run.B4_args m c Cert.KernelIdeal.main_arg7 (by decide)),
        (h.1 c _ (Cert.KernelIdeal.Run.mem_uc Cert.KernelIdeal.main_arg8 (by decide))).trans (Cert.KernelIdeal.Run.B4_args m c Cert.KernelIdeal.main_arg8 (by decide)),
        (h.1 c _ (Cert.KernelIdeal.Run.mem_uc Cert.KernelIdeal.main_arg9 (by decide))).trans (Cert.KernelIdeal.Run.B4_args m c Cert.KernelIdeal.main_arg9 (by decide)),
        (h.1 c _ (Cert.KernelIdeal.Run.mem_uc Cert.KernelIdeal.main_arg10 (by decide))).trans (Cert.KernelIdeal.Run.B4_args m c Cert.KernelIdeal.main_arg10 (by decide)),
        (h.1 c _ (Cert.KernelIdeal.Run.mem_uc Cert.KernelIdeal.main_arg11 (by decide))).trans (Cert.KernelIdeal.Run.B4_args m c Cert.KernelIdeal.main_arg11 (by decide)),
        (h.1 c _ (Cert.KernelIdeal.Run.mem_uc Cert.KernelIdeal.main_arg12 (by decide))).trans (Cert.KernelIdeal.Run.B4_args m c Cert.KernelIdeal.main_arg12 (by decide)),
        (h.1 c _ (Cert.KernelIdeal.Run.mem_uc Cert.KernelIdeal.main_arg13 (by decide))).trans (Cert.KernelIdeal.Run.B4_args m c Cert.KernelIdeal.main_arg13 (by decide)),
        (h.1 c _ (Cert.KernelIdeal.Run.mem_uc Cert.KernelIdeal.main_arg14 (by decide))).trans (Cert.KernelIdeal.Run.B4_args m c Cert.KernelIdeal.main_arg14 (by decide)),
        (h.1 c _ (Cert.KernelIdeal.Run.mem_uc Cert.KernelIdeal.main_arg15 (by decide))).trans (Cert.KernelIdeal.Run.B4_args m c Cert.KernelIdeal.main_arg15 (by decide))⟩)
      (Cert.KernelIdeal.Run.run (F := Ideal) m g),
    (θ_run Cert.ReferenceIdeal.defs _ _).mono (fun _ h c => ⟨by
        obtain ⟨e0, e1, e2, e3, e4, e5, e6, e7, e8, e9, e10, e11, e12, e13, e14, e15⟩ := hargs c
        refine (h c).1.trans ((Cert.ReferenceIdeal.Read.val_main_v171_eq (F := Ideal) (StableHlo.launchContents m' c)).trans ?_)
        exact stage_congr e0 e1 e2 e3 e4 e5 e6 e7 e8 e9 e10 e11 e12 e13 e14 e15, (h c).2⟩)
      (Cert.ReferenceIdeal.Value.run (F := Ideal) m' g')⟩

/-- The certificate. -/
theorem claim : Cert.Claim :=
  ⟨Cert.Kernel.Gen.facts, Cert.KernelIdeal.Gen.facts, Cert.ReferenceIdeal.Gen.facts, Cert.Pre_pre.Gen.facts,
    frame_kernel, frame_ideal, frame_ideal_pre, frame_reference, frame_reference_pre, named_mask, same_value⟩

end Cert.Proof

end
